-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S2048x2048 : Shape := ⟨2, ![2048, 2048]⟩
abbrev S2x2x512x512 : Shape := ⟨4, ![2, 2, 512, 512]⟩
abbrev S6x2x512x512 : Shape := ⟨4, ![6, 2, 512, 512]⟩
abbrev S6x2 : Shape := ⟨2, ![6, 2]⟩
abbrev S_ : Shape := ⟨0, ![]⟩
abbrev S512x512 : Shape := ⟨2, ![512, 512]⟩
abbrev S1x1x512x512 : Shape := ⟨4, ![1, 1, 512, 512]⟩
abbrev S1x1 : Shape := ⟨2, ![1, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .local _ .vmem, ⟨0, _⟩ => ⟨S2048x512, .bf16⟩
  | .local _ .vmem, ⟨1, _⟩ => ⟨S512x2048, .bf16⟩
  | .local _ .vmem, ⟨2, _⟩ => ⟨S2048x2048, .f32⟩
  | .local _ .vmem, ⟨3, _⟩ => ⟨S2048x512, .bf16⟩
  | .local _ .vmem, ⟨4, _⟩ => ⟨S512x2048, .bf16⟩
  | .local _ .vmem, ⟨5, _⟩ => ⟨S2x2x512x512, .bf16⟩
  | .local _ .vmem, ⟨6, _⟩ => ⟨S6x2x512x512, .bf16⟩
  | .local _ .vmem, ⟨7, _⟩ => ⟨S6x2x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v23 : BitVec 32 := Scalar.muli v2 c512_i32
  let v24 : Index := Scalar.indexCast v23
  let c0_17 : Index := 0#32
  ![v24.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_20 : BitVec 32 := 512#32
  let v28 : BitVec 32 := Scalar.muli v2 c512_i32_20
  let v29 : Index := Scalar.indexCast v28
  let c0_21 : Index := 0#32
  ![v29.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_22 : BitVec 32 := 512#32
  let v31 : BitVec 32 := Scalar.muli v2 c512_i32_22
  let v32 : Index := Scalar.indexCast v31
  let c0_23 : Index := 0#32
  ![v32.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_36 : BitVec 32 := 1#32
  let v39 : BitVec 32 := Scalar.muli v4 c1_i32_36
  let v40 : BitVec 32 := Scalar.addi c0_i32_37 v39
  v40.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_42 : BitVec 32 := 512#32
  let v49 : BitVec 32 := Scalar.muli v2 c512_i32_42
  let v50 : Index := Scalar.indexCast v49
  let c1024 : Index := 1024#32
  ![v50.toNat, 1024]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_54 : BitVec 32 := 1#32
  let v57 : BitVec 32 := Scalar.muli v7 c1_i32_54
  let v58 : BitVec 32 := Scalar.addi c0_i32_55 v57
  v58.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_60 : BitVec 32 := 512#32
  let v67 : BitVec 32 := Scalar.muli v2 c512_i32_60
  let v68 : Index := Scalar.indexCast v67
  let c512 : Index := 512#32
  ![v68.toNat, 512]
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_73 : BitVec 32 := 1#32
  let v75 : BitVec 32 := Scalar.muli v4 c1_i32_73
  let v76 : BitVec 32 := Scalar.addi c0_i32_74 v75
  v76.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_79 : BitVec 32 := 512#32
  let v85 : BitVec 32 := Scalar.muli v2 c512_i32_79
  let v86 : Index := Scalar.indexCast v85
  let c1536 : Index := 1536#32
  ![v86.toNat, 1536]
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_92 : BitVec 32 := 1#32
  let v93 : BitVec 32 := Scalar.muli v7 c1_i32_92
  let v94 : BitVec 32 := Scalar.addi c0_i32_93 v93
  v94.toNat
def k0_off7 (d0 : Dev nD) (c1_i32_98 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.addi v2 c1_i32_98
  let c4_i32_99 : BitVec 32 := 4#32
  let v104 : BitVec 32 := Scalar.remsi v103 c4_i32_99
  let c512_i32_100 : BitVec 32 := 512#32
  let v105 : BitVec 32 := Scalar.muli v104 c512_i32_100
  let v106 : Index := Scalar.indexCast v105
  let c0_101 : Index := 0#32
  ![v106.toNat, 0]
def k0_off8 (d0 : Dev nD) (c1_i32_98 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.addi v2 c1_i32_98
  let c4_i32_99 : BitVec 32 := 4#32
  let v104 : BitVec 32 := Scalar.remsi v103 c4_i32_99
  let c512_i32_105 : BitVec 32 := 512#32
  let v110 : BitVec 32 := Scalar.muli v104 c512_i32_105
  let v111 : Index := Scalar.indexCast v110
  let c0_106 : Index := 0#32
  ![v111.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_107 : BitVec 32 := 4#32
  let v113 : BitVec 32 := Scalar.addi v2 c4_i32_107
  let c1_i32_108 : BitVec 32 := 1#32
  let v114 : BitVec 32 := Scalar.subi v113 c1_i32_108
  let c4_i32_109 : BitVec 32 := 4#32
  let v115 : BitVec 32 := Scalar.remsi v114 c4_i32_109
  let c512_i32_110 : BitVec 32 := 512#32
  let v116 : BitVec 32 := Scalar.muli v115 c512_i32_110
  let v117 : Index := Scalar.indexCast v116
  let c0_111 : Index := 0#32
  ![v117.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_107 : BitVec 32 := 4#32
  let v113 : BitVec 32 := Scalar.addi v2 c4_i32_107
  let c1_i32_108 : BitVec 32 := 1#32
  let v114 : BitVec 32 := Scalar.subi v113 c1_i32_108
  let c4_i32_109 : BitVec 32 := 4#32
  let v115 : BitVec 32 := Scalar.remsi v114 c4_i32_109
  let c512_i32_115 : BitVec 32 := 512#32
  let v121 : BitVec 32 := Scalar.muli v115 c512_i32_115
  let v122 : Index := Scalar.indexCast v121
  let c0_116 : Index := 0#32
  ![v122.toNat, 0]
def k0_off11 (d0 : Dev nD) (c0_i32_153 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : BitVec 32 := Scalar.subi v2 c0_i32_153
  let c1_i32_154 : BitVec 32 := 1#32
  let v149 : BitVec 32 := Scalar.subi v148 c1_i32_154
  let c4_i32_155 : BitVec 32 := 4#32
  let v150 : BitVec 32 := Scalar.addi v149 c4_i32_155
  let c4_i32_156 : BitVec 32 := 4#32
  let v151 : BitVec 32 := Scalar.remsi v150 c4_i32_156
  let c512_i32_157 : BitVec 32 := 512#32
  let v152 : BitVec 32 := Scalar.muli v151 c512_i32_157
  let v153 : Index := Scalar.indexCast v152
  let c0_158 : Index := 0#32
  ![v153.toNat, 0]
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_175 : BitVec 32 := 1#32
  let v164 : BitVec 32 := Scalar.muli v4 c1_i32_175
  let v165 : BitVec 32 := Scalar.addi c0_i32_176 v164
  v165.toNat
def k0_off12 (d0 : Dev nD) (c0_i32_208 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v188 : BitVec 32 := Scalar.addi v2 c0_i32_208
  let c1_i32_209 : BitVec 32 := 1#32
  let v189 : BitVec 32 := Scalar.addi v188 c1_i32_209
  let c4_i32_210 : BitVec 32 := 4#32
  let v190 : BitVec 32 := Scalar.remsi v189 c4_i32_210
  let c512_i32_211 : BitVec 32 := 512#32
  let v191 : BitVec 32 := Scalar.muli v190 c512_i32_211
  let v192 : Index := Scalar.indexCast v191
  let c1024_212 : Index := 1024#32
  ![v192.toNat, 1024]
def k0_dev8 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_229 : BitVec 32 := 1#32
  let v203 : BitVec 32 := Scalar.muli v7 c1_i32_229
  let v204 : BitVec 32 := Scalar.addi c0_i32_230 v203
  v204.toNat
def k0_off13 (d0 : Dev nD) (c0_i32_262 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v227 : BitVec 32 := Scalar.subi v2 c0_i32_262
  let c1_i32_263 : BitVec 32 := 1#32
  let v228 : BitVec 32 := Scalar.subi v227 c1_i32_263
  let c4_i32_264 : BitVec 32 := 4#32
  let v229 : BitVec 32 := Scalar.addi v228 c4_i32_264
  let c4_i32_265 : BitVec 32 := 4#32
  let v230 : BitVec 32 := Scalar.remsi v229 c4_i32_265
  let c512_i32_266 : BitVec 32 := 512#32
  let v231 : BitVec 32 := Scalar.muli v230 c512_i32_266
  let v232 : Index := Scalar.indexCast v231
  let c512_267 : Index := 512#32
  ![v232.toNat, 512]
def k0_dev9 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_284 : BitVec 32 := 1#32
  let v243 : BitVec 32 := Scalar.muli v4 c1_i32_284
  let v244 : BitVec 32 := Scalar.addi c0_i32_285 v243
  v244.toNat
def k0_off14 (d0 : Dev nD) (c0_i32_317 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v267 : BitVec 32 := Scalar.addi v2 c0_i32_317
  let c1_i32_318 : BitVec 32 := 1#32
  let v268 : BitVec 32 := Scalar.addi v267 c1_i32_318
  let c4_i32_319 : BitVec 32 := 4#32
  let v269 : BitVec 32 := Scalar.remsi v268 c4_i32_319
  let c512_i32_320 : BitVec 32 := 512#32
  let v270 : BitVec 32 := Scalar.muli v269 c512_i32_320
  let v271 : Index := Scalar.indexCast v270
  let c1536_321 : Index := 1536#32
  ![v271.toNat, 1536]
def k0_dev10 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_338 : BitVec 32 := 1#32
  let v282 : BitVec 32 := Scalar.muli v7 c1_i32_338
  let v283 : BitVec 32 := Scalar.addi c0_i32_339 v282
  v283.toNat
def k0_dev11 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_393 : BitVec 32 := 1#32
  let v322 : BitVec 32 := Scalar.muli v4 c1_i32_393
  let v323 : BitVec 32 := Scalar.addi c0_i32_394 v322
  v323.toNat
def k0_dev12 (d0 : Dev nD) : Nat :=
  let c0_i32_448 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_447 : BitVec 32 := 1#32
  let v361 : BitVec 32 := Scalar.muli v7 c1_i32_447
  let v362 : BitVec 32 := Scalar.addi c0_i32_448 v361
  v362.toNat
def k0_dev13 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_502 : BitVec 32 := 1#32
  let v401 : BitVec 32 := Scalar.muli v4 c1_i32_502
  let v402 : BitVec 32 := Scalar.addi c0_i32_503 v401
  v402.toNat
def k0_dev14 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_556 : BitVec 32 := 1#32
  let v440 : BitVec 32 := Scalar.muli v7 c1_i32_556
  let v441 : BitVec 32 := Scalar.addi c0_i32_557 v440
  v441.toNat
def k0_dev15 (d0 : Dev nD) : Nat :=
  let c0_i32_616 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_615 : BitVec 32 := 1#32
  let v496 : BitVec 32 := Scalar.muli v4 c1_i32_615
  let v497 : BitVec 32 := Scalar.addi c0_i32_616 v496
  v497.toNat
def k0_dev16 (d0 : Dev nD) : Nat :=
  let c0_i32_676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_675 : BitVec 32 := 1#32
  let v551 : BitVec 32 := Scalar.muli v7 c1_i32_675
  let v552 : BitVec 32 := Scalar.addi c0_i32_676 v551
  v552.toNat
def k0_dev17 (d0 : Dev nD) : Nat :=
  let c0_i32_737 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_736 : BitVec 32 := 1#32
  let v607 : BitVec 32 := Scalar.muli v4 c1_i32_736
  let v608 : BitVec 32 := Scalar.addi c0_i32_737 v607
  v608.toNat
def k0_dev18 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_796 : BitVec 32 := 1#32
  let v662 : BitVec 32 := Scalar.muli v7 c1_i32_796
  let v663 : BitVec 32 := Scalar.addi c0_i32_797 v662
  v663.toNat
def k0_dev19 (d0 : Dev nD) : Nat :=
  let c0_i32_838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_837 : BitVec 32 := 1#32
  let v686 : BitVec 32 := Scalar.muli v4 c1_i32_837
  let v687 : BitVec 32 := Scalar.addi c0_i32_838 v686
  v687.toNat
def k0_off15 (d0 : Dev nD) (c0_i32_843 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v696 : BitVec 32 := Scalar.subi v2 c0_i32_843
  let c4_i32_844 : BitVec 32 := 4#32
  let v697 : BitVec 32 := Scalar.addi v696 c4_i32_844
  let c4_i32_845 : BitVec 32 := 4#32
  let v698 : BitVec 32 := Scalar.remsi v697 c4_i32_845
  let c512_i32_849 : BitVec 32 := 512#32
  let v702 : BitVec 32 := Scalar.muli v698 c512_i32_849
  let v703 : Index := Scalar.indexCast v702
  let c0_850 : Index := 0#32
  ![v703.toNat, 0]
def k0_dev20 (d0 : Dev nD) : Nat :=
  let c0_i32_887 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_886 : BitVec 32 := 1#32
  let v719 : BitVec 32 := Scalar.muli v7 c1_i32_886
  let v720 : BitVec 32 := Scalar.addi c0_i32_887 v719
  v720.toNat
def k0_off16 (d0 : Dev nD) (c0_i32_892 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v729 : BitVec 32 := Scalar.addi v2 c0_i32_892
  let c4_i32_893 : BitVec 32 := 4#32
  let v730 : BitVec 32 := Scalar.remsi v729 c4_i32_893
  let c512_i32_898 : BitVec 32 := 512#32
  let v734 : BitVec 32 := Scalar.muli v730 c512_i32_898
  let v735 : Index := Scalar.indexCast v734
  let c1024_899 : Index := 1024#32
  ![v735.toNat, 1024]
def k0_dev21 (d0 : Dev nD) : Nat :=
  let c0_i32_936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_935 : BitVec 32 := 1#32
  let v751 : BitVec 32 := Scalar.muli v4 c1_i32_935
  let v752 : BitVec 32 := Scalar.addi c0_i32_936 v751
  v752.toNat
def k0_off17 (d0 : Dev nD) (c0_i32_941 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v761 : BitVec 32 := Scalar.subi v2 c0_i32_941
  let c4_i32_942 : BitVec 32 := 4#32
  let v762 : BitVec 32 := Scalar.addi v761 c4_i32_942
  let c4_i32_943 : BitVec 32 := 4#32
  let v763 : BitVec 32 := Scalar.remsi v762 c4_i32_943
  let c512_i32_948 : BitVec 32 := 512#32
  let v767 : BitVec 32 := Scalar.muli v763 c512_i32_948
  let v768 : Index := Scalar.indexCast v767
  let c512_949 : Index := 512#32
  ![v768.toNat, 512]
def k0_dev22 (d0 : Dev nD) : Nat :=
  let c0_i32_986 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_985 : BitVec 32 := 1#32
  let v784 : BitVec 32 := Scalar.muli v7 c1_i32_985
  let v785 : BitVec 32 := Scalar.addi c0_i32_986 v784
  v785.toNat
def k0_off18 (d0 : Dev nD) (c0_i32_991 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v794 : BitVec 32 := Scalar.addi v2 c0_i32_991
  let c4_i32_992 : BitVec 32 := 4#32
  let v795 : BitVec 32 := Scalar.remsi v794 c4_i32_992
  let c512_i32_997 : BitVec 32 := 512#32
  let v799 : BitVec 32 := Scalar.muli v795 c512_i32_997
  let v800 : Index := Scalar.indexCast v799
  let c1536_998 : Index := 1536#32
  ![v800.toNat, 1536]
def k0_dev23 (d0 : Dev nD) : Nat :=
  let c0_i32_1034 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1033 : BitVec 32 := 1#32
  let v816 : BitVec 32 := Scalar.muli v4 c1_i32_1033
  let v817 : BitVec 32 := Scalar.addi c0_i32_1034 v816
  v817.toNat
def k0_dev24 (d0 : Dev nD) : Nat :=
  let c0_i32_1083 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1082 : BitVec 32 := 1#32
  let v849 : BitVec 32 := Scalar.muli v7 c1_i32_1082
  let v850 : BitVec 32 := Scalar.addi c0_i32_1083 v849
  v850.toNat
def k0_dev25 (d0 : Dev nD) : Nat :=
  let c0_i32_1132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1131 : BitVec 32 := 1#32
  let v881 : BitVec 32 := Scalar.muli v4 c1_i32_1131
  let v882 : BitVec 32 := Scalar.addi c0_i32_1132 v881
  v882.toNat
def k0_dev26 (d0 : Dev nD) : Nat :=
  let c0_i32_1182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1181 : BitVec 32 := 1#32
  let v914 : BitVec 32 := Scalar.muli v7 c1_i32_1181
  let v915 : BitVec 32 := Scalar.addi c0_i32_1182 v914
  v915.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Steps.lean ====
/-
  The kernel as a list of steps. The printed body unrolls a ring of 24 transfers; here each transfer has a number
  `k < 24` in program order (`k = 4·hop + 2·subtile + direction`), the buffers and semaphores it uses are functions of
  that number, and the body is four kinds of step instantiated at the numbers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow

@[expose] public section

noncomputable section

namespace Cert.KernelIdeal.Gen

open Idealize.ShloMosaic Idealize.ShloMosaic.TcCoe
open Idealize.SL.Sem

variable {F : FTy → Type} [FloatOps F]

/-! ## The ring of devices -/

/-- The right-hand and the left-hand neighbour on the ring of four. -/
def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- Transfer `k` goes right when `k` is even and left when it is odd: whom device `c` sends it to, -/
def dest (k : ℕ) (c : Dev nD) : Dev nD := if k % 2 = 0 then nxt c else prv c
/-- and whom device `c` receives it from. -/
def frm (k : ℕ) (c : Dev nD) : Dev nD := if k % 2 = 0 then prv c else nxt c

theorem frm_dest (k : ℕ) (c : Dev nD) : frm k (dest k c) = c := by
  unfold frm dest; split <;> first | exact prv_nxt c | exact nxt_prv c
theorem dest_frm (k : ℕ) (c : Dev nD) : dest k (frm k c) = c := by
  unfold frm dest; split <;> first | exact prv_nxt c | exact nxt_prv c

/-! ## The buffers -/

/-- The staged blocks of `x`, `w` and the result. -/
abbrev xM : Memref sig .tc .vmem S2048x512 .bf16 := Memref.whole cc0_stg0_0
abbrev wM : Memref sig .tc .vmem S512x2048 .bf16 := Memref.whole cc0_stg1_0
abbrev oM : Memref sig .tc .vmem S2048x2048 .f32 := Memref.whole cc0_stg2_0
/-- The copies of `x` and `w` the products read. -/
abbrev xbM : Memref sig .tc .vmem S2048x512 .bf16 := Memref.whole cc0_scratch0
abbrev wbM : Memref sig .tc .vmem S512x2048 .bf16 := Memref.whole cc0_scratch1
/-- The four send tiles, and the twelve landing tiles of each direction. -/
abbrev sM : Memref sig .tc .vmem S2x2x512x512 .bf16 := Memref.whole cc0_scratch2
abbrev rM0 : Memref sig .tc .vmem S6x2x512x512 .bf16 := Memref.whole cc0_scratch3
abbrev rM1 : Memref sig .tc .vmem S6x2x512x512 .bf16 := Memref.whole cc0_scratch4

/-- Where transfer `k`'s tile lands: hop `k/4`, subtile `k/2 % 2`, in the buffer of its direction. -/
abbrev landOff (k : ℕ) : Fin 4 → ℕ := ![k / 4 % 6, k / 2 % 2, 0, 0]
theorem landOff_inb (k : ℕ) : ∀ a, landOff k a + S1x1x512x512.size a ≤ S6x2x512x512.size a := by
  intro a
  match a with
  | 0 => exact Nat.mod_lt (k / 4) (by decide : 0 < 6)
  | 1 => exact Nat.mod_lt (k / 2) (by decide : 0 < 2)
  | 2 => exact le_refl 512
  | 3 => exact le_refl 512
abbrev landBuf (k : ℕ) : Memref sig .tc .vmem S6x2x512x512 .bf16 := if k % 2 = 0 then rM0 else rM1
abbrev landM (k : ℕ) : Memref sig .tc .vmem S1x1x512x512 .bf16 :=
  (landBuf k).slice (Rect.unit (s := S6x2x512x512) (landOff k) S1x1x512x512.size (landOff_inb k)) (fun _ => rfl)

/-- The send tile transfers `j`, `j + 4`, … share: direction `j % 2`, subtile `j/2 % 2`. -/
abbrev sendOff (j : ℕ) : Fin 4 → ℕ := ![j % 2, j / 2 % 2, 0, 0]
theorem sendOff_inb (j : ℕ) : ∀ a, sendOff j a + S1x1x512x512.size a ≤ S2x2x512x512.size a := by
  intro a
  match a with
  | 0 => exact Nat.mod_lt j (by decide : 0 < 2)
  | 1 => exact Nat.mod_lt (j / 2) (by decide : 0 < 2)
  | 2 => exact le_refl 512
  | 3 => exact le_refl 512
abbrev sendM (j : ℕ) : Memref sig .tc .vmem S1x1x512x512 .bf16 :=
  sM.slice (Rect.unit (s := S2x2x512x512) (sendOff j) S1x1x512x512.size (sendOff_inb j)) (fun _ => rfl)

/-- What transfer `k` reads: a send tile up to the first gathering hop, from then on the tile landed a hop before. -/
abbrev srcM (k : ℕ) : Memref sig .tc .vmem S1x1x512x512 .bf16 := if k < 16 then sendM k else landM (k - 4)

/-- A transfer addresses its tiles with the unit axes dropped. -/
abbrev flat (M : Memref sig .tc .vmem S1x1x512x512 .bf16) : Memref sig .tc .vmem S512x512 .bf16 :=
  M.squeeze S512x512 squeezes_S1x1x512x512_S512x512

theorem landBuf_isWhole (k : ℕ) : (landBuf k).IsWhole := by
  unfold landBuf; split <;> exact Memref.isWhole_whole _
theorem landM_words (k : ℕ) : (landM k).view.WordExact :=
  (landBuf_isWhole k).wordExact_slice rfl _ (.inl (.inr ⟨by decide, rfl, .inl ⟨⟨0, rfl⟩, ⟨256, rfl⟩⟩⟩))
theorem sendM_words (j : ℕ) : (sendM j).view.WordExact :=
  (Memref.isWhole_whole cc0_scratch2).wordExact_slice rfl _ (.inl (.inr ⟨by decide, rfl, .inl ⟨⟨0, rfl⟩, ⟨256, rfl⟩⟩⟩))
theorem sendM_store (j : ℕ) : (sM.access (Rect.unit (s := S2x2x512x512) (sendOff j) S1x1x512x512.size (sendOff_inb j))).StoreExact Finset.univ :=
  (Memref.isWhole_whole cc0_scratch2).storeExact_slice rfl _ (.inr ⟨by decide, rfl, .inl ⟨⟨0, rfl⟩, ⟨256, rfl⟩⟩⟩)
theorem srcM_words (k : ℕ) : (srcM k).view.WordExact := by
  unfold srcM; split
  · exact sendM_words k
  · exact landM_words (k - 4)
theorem flat_words {M : Memref sig .tc .vmem S1x1x512x512 .bf16} (h : M.view.WordExact) : (flat M).view.WordExact := h.reshape _ _

/-- Transfer `k`'s two completion semaphores: of its source on the sender, of its tile on the receiver. -/
def ssem (k : ℕ) : DmaSem sig := ⟨3 + (12 * (k % 2) + 2 * (k / 4 % 6) + k / 2 % 2), by show _ < 51; omega⟩
def rsem (k : ℕ) : DmaSem sig := ⟨27 + (12 * (k % 2) + 2 * (k / 4 % 6) + k / 2 % 2), by show _ < 51; omega⟩
/-- The barrier semaphore. -/
abbrev barS : Sem sig := (SemArray.scalar (sig.barrier 0 rfl) : Sems sig S_).sem

/-! ## The steps -/

local notation "ℙ" => Prog (TpuEff nD τ sig (Elt F) Λ₀ Proc.tc) PUnit

/-- Start transfer `k` to device `n`. -/
abbrev send (k : ℕ) (n : Dev nD) : ℙ :=
  Prog.lift (.enqueueDma (flat (srcM k)) (.remote (Dev.tc n) (flat (landM k)) (.dma (ssem k))) (.dma (rsem k))
    (flat_words (srcM_words k)) (flat_words (landM_words k)) ⟨⟨rfl, Or.inl rfl⟩, trivial⟩)

/-- Wait for the own transfer `k` to have been read, then for the neighbour's to have landed. -/
abbrev waits (k : ℕ) : ℙ := do
  Prog.lift (.waitDma2 (ssem k) (flat (landM k)) (flat (srcM k)) (flat_words (landM_words k)) (flat_words (srcM_words k)))
  Prog.lift (.waitDma2 (rsem k) (flat (srcM k)) (flat (landM k)) (flat_words (srcM_words k)) (flat_words (landM_words k)))

abbrev loadOut (off : Fin 2 → ℕ) (inb : ∀ a, off a + S512x512.size a ≤ S2048x2048.size a) :
    Prog (TpuEff nD τ sig (Elt F) Λ₀ .tc) (Vec F S512x512 .f32) :=
  Prog.lift (.load oM (Rect.unit (s := S2048x2048) off S512x512.size inb).toLoadRect (View.loadsAt_vmem h_S512x512))
abbrev storeOut (off : Fin 2 → ℕ) (inb : ∀ a, off a + S512x512.size a ≤ S2048x2048.size a) (v : FVec F S512x512 .f32) : ℙ :=
  Prog.lift (.store oM (Rect.unit (s := S2048x2048) off S512x512.size inb) v Finset.univ (View.stores_vmem_bits_univ h_S512x512 rfl) (.inl rfl))
abbrev loadLand (k : ℕ) : Prog (TpuEff nD τ sig (Elt F) Λ₀ .tc) (Vec F S1x1x512x512 .bf16) :=
  Prog.lift (.load (landBuf k) (Rect.unit (s := S6x2x512x512) (landOff k) S1x1x512x512.size (landOff_inb k)).toLoadRect (View.loadsAt_vmem h_S1x1x512x512))
abbrev loadSend (j : ℕ) : Prog (TpuEff nD τ sig (Elt F) Λ₀ .tc) (Vec F S1x1x512x512 .bf16) :=
  Prog.lift (.load sM (Rect.unit (s := S2x2x512x512) (sendOff j) S1x1x512x512.size (sendOff_inb j)).toLoadRect (View.loadsAt_vmem h_S1x1x512x512))
abbrev storeSend (j : ℕ) (v : FVec F S1x1x512x512 .bf16) : ℙ :=
  Prog.lift (.store sM (Rect.unit (s := S2x2x512x512) (sendOff j) S1x1x512x512.size (sendOff_inb j)) v Finset.univ (View.stores_vmem h_S1x1x512x512 (sendM_store j) (fun _ => rfl)) (.inl rfl))

/-- A row block of the partial product: read the row block of `x` and all of `w`, multiply, store. -/
abbrev rowStep (offx : Fin 2 → ℕ) (inbx : ∀ a, offx a + S512x512.size a ≤ S2048x512.size a)
    (offo : Fin 2 → ℕ) (inbo : ∀ a, offo a + S512x2048.size a ≤ S2048x2048.size a) : ℙ := do
  let x : Vec F S512x512 .bf16 ← Prog.lift (.load xbM (Rect.unit (s := S2048x512) offx S512x512.size inbx).toLoadRect (View.loadsAt_vmem h_S512x512))
  let w : Vec F S512x2048 .bf16 ← Prog.lift (.load wbM (Rect.unit (s := S512x2048) ![0, 0] S512x2048.size inb_S512x2048_S512x2048_0_0).toLoadRect (View.loadsAt_vmem h_S512x2048))
  let _ : Vec F S512x2048 .f32 ← Prog.lift (.load oM (Rect.unit (s := S2048x2048) offo S512x2048.size inbo).toLoadRect (View.loadsAt_vmem h_S512x2048))
  Prog.lift (.store oM (Rect.unit (s := S2048x2048) offo S512x2048.size inbo) (k0_pay4 x w) Finset.univ (View.stores_vmem_bits_univ h_S512x2048 rfl) (.inl rfl))

/-- The first hop's send: round a tile of the own partial product into the send tile, start the transfer. -/
abbrev firstStep (k : ℕ) (off : Fin 2 → ℕ) (inb : ∀ a, off a + S512x512.size a ≤ S2048x2048.size a) (n : Dev nD) : ℙ := do
  let v ← loadOut (F := F) off inb
  let _ ← loadSend (F := F) k
  storeSend k (k0_pay5 v)
  send k n

/-- A reducing hop: add the landed tile to the own one, round, send on. -/
abbrev addStep (k : ℕ) (off : Fin 2 → ℕ) (inb : ∀ a, off a + S512x512.size a ≤ S2048x2048.size a) (n : Dev nD) : ℙ := do
  waits k
  let v ← loadOut (F := F) off inb
  let r ← loadLand (F := F) k
  let _ ← loadSend (F := F) k
  storeSend k (k0_pay15 v r)
  send (k + 4) n

/-- The last reducing hop: the sum through the activation, into the result and, rounded, onwards. -/
abbrev actStep (k : ℕ) (off : Fin 2 → ℕ) (inb : ∀ a, off a + S512x512.size a ≤ S2048x2048.size a) (n : Dev nD) : ℙ := do
  waits k
  let v ← loadOut (F := F) off inb
  let r ← loadLand (F := F) k
  let _ ← loadOut (F := F) off inb
  storeOut off inb (k0_pay24 (k0_pay23 v r) (Scalar.ofBits .f32 0x3F000000#32))
  let _ ← loadSend (F := F) k
  storeSend k (k0_pay25 (k0_pay23 v r) (Scalar.ofBits .f32 0x3F000000#32))
  send (k + 4) n

/-- A gathering hop: the landed tile goes on, and into the result; -/
abbrev passStep (k : ℕ) (off : Fin 2 → ℕ) (inb : ∀ a, off a + S512x512.size a ≤ S2048x2048.size a) (n : Dev nD) : ℙ := do
  waits k
  send (k + 4) n
  let r ← loadLand (F := F) k
  let _ ← loadOut (F := F) off inb
  storeOut off inb (k0_pay37 r)

/-- the last gathering hop: only into the result. -/
abbrev endStep (k : ℕ) (off : Fin 2 → ℕ) (inb : ∀ a, off a + S512x512.size a ≤ S2048x2048.size a) : ℙ := do
  waits k
  let r ← loadLand (F := F) k
  let _ ← loadOut (F := F) off inb
  storeOut off inb (k0_pay37 r)

/-- The barrier with both neighbours, and the copies of `x` and `w` into scratch. -/
abbrev openStep (d : Dev nD) : ℙ := do
  semSignalWord (⟨k0_dev1 d, k0_dev1_lt d⟩ : Dev nD) barS 1#32
  semSignalWord (⟨k0_dev2 d, k0_dev2_lt d⟩ : Dev nD) barS 1#32
  semWaitWord barS 2#32
  let x : Vec F S2048x512 .bf16 ← Prog.lift (.load xM (Rect.unit (s := S2048x512) ![0, 0] S2048x512.size inb_S2048x512_S2048x512_0_0).toLoadRect (View.loadsAt_vmem h_S2048x512))
  let _ : Vec F S2048x512 .bf16 ← Prog.lift (.load xbM (Rect.unit (s := S2048x512) ![0, 0] S2048x512.size inb_S2048x512_S2048x512_0_0).toLoadRect (View.loadsAt_vmem h_S2048x512))
  Prog.lift (.store xbM (Rect.unit (s := S2048x512) ![0, 0] S2048x512.size inb_S2048x512_S2048x512_0_0) (k0_pay2 x) Finset.univ
    (View.stores_vmem h_S2048x512 ((Memref.isWhole_whole cc0_scratch0).storeExact_slice rfl _ packedbf16_S2048x512_S2048x512_0_0) (fun _ => rfl)) (.inl rfl))
  let w : Vec F S512x2048 .bf16 ← Prog.lift (.load wM (Rect.unit (s := S512x2048) ![0, 0] S512x2048.size inb_S512x2048_S512x2048_0_0).toLoadRect (View.loadsAt_vmem h_S512x2048))
  let _ : Vec F S512x2048 .bf16 ← Prog.lift (.load wbM (Rect.unit (s := S512x2048) ![0, 0] S512x2048.size inb_S512x2048_S512x2048_0_0).toLoadRect (View.loadsAt_vmem h_S512x2048))
  Prog.lift (.store wbM (Rect.unit (s := S512x2048) ![0, 0] S512x2048.size inb_S512x2048_S512x2048_0_0) (k0_pay3 w) Finset.univ
    (View.stores_vmem h_S512x2048 ((Memref.isWhole_whole cc0_scratch1).storeExact_slice rfl _ packedbf16_S512x2048_S512x2048_0_0) (fun _ => rfl)) (.inl rfl))

/-- Hops of one kind come in fours: subtile 0 right and left, subtile 1 right and left. -/
abbrev four (p₀ p₁ p₂ p₃ : ℙ) : ℙ := do p₀; p₁; p₂; p₃

/-- The whole body on device `d`: the barrier, the partial product interleaved with the first sends, then the
    24 transfers' steps in order. -/
abbrev ringProg (d : Dev nD) : ℙ := do
  openStep d
  rowStep (k0_off1 d) (k0_off1_inb d) (k0_off2 d) (k0_off2_inb d)
  four (firstStep 0 (k0_off3 d) (k0_off3_inb d) ⟨k0_dev3 d, k0_dev3_lt d⟩) (firstStep 1 (k0_off4 d) (k0_off4_inb d) ⟨k0_dev4 d, k0_dev4_lt d⟩)
    (firstStep 2 (k0_off5 d) (k0_off5_inb d) ⟨k0_dev5 d, k0_dev5_lt d⟩) (firstStep 3 (k0_off6 d) (k0_off6_inb d) ⟨k0_dev6 d, k0_dev6_lt d⟩)
  rowStep (k0_off7 d 1#32) (k0_off7_inb d 0) (k0_off8 d 1#32) (k0_off8_inb d 0)
  rowStep (k0_off9 d) (k0_off9_inb d) (k0_off10 d) (k0_off10_inb d)
  rowStep (k0_off7 d 2#32) (k0_off7_inb d 1) (k0_off8 d 2#32) (k0_off8_inb d 1)
  four (addStep 0 (k0_off11 d 0#32) (k0_off11_inb d 0) ⟨k0_dev7 d, k0_dev7_lt d⟩) (addStep 1 (k0_off12 d 0#32) (k0_off12_inb d 0) ⟨k0_dev8 d, k0_dev8_lt d⟩)
    (addStep 2 (k0_off13 d 0#32) (k0_off13_inb d 0) ⟨k0_dev9 d, k0_dev9_lt d⟩) (addStep 3 (k0_off14 d 0#32) (k0_off14_inb d 0) ⟨k0_dev10 d, k0_dev10_lt d⟩)
  four (addStep 4 (k0_off11 d 1#32) (k0_off11_inb d 1) ⟨k0_dev11 d, k0_dev11_lt d⟩) (addStep 5 (k0_off12 d 1#32) (k0_off12_inb d 1) ⟨k0_dev12 d, k0_dev12_lt d⟩)
    (addStep 6 (k0_off13 d 1#32) (k0_off13_inb d 1) ⟨k0_dev13 d, k0_dev13_lt d⟩) (addStep 7 (k0_off14 d 1#32) (k0_off14_inb d 1) ⟨k0_dev14 d, k0_dev14_lt d⟩)
  four (actStep 8 (k0_off11 d 2#32) (k0_off11_inb d 2) ⟨k0_dev15 d, k0_dev15_lt d⟩) (actStep 9 (k0_off12 d 2#32) (k0_off12_inb d 2) ⟨k0_dev16 d, k0_dev16_lt d⟩)
    (actStep 10 (k0_off13 d 2#32) (k0_off13_inb d 2) ⟨k0_dev17 d, k0_dev17_lt d⟩) (actStep 11 (k0_off14 d 2#32) (k0_off14_inb d 2) ⟨k0_dev18 d, k0_dev18_lt d⟩)
  four (passStep 12 (k0_off15 d 0#32) (k0_off15_inb d 0) ⟨k0_dev19 d, k0_dev19_lt d⟩) (passStep 13 (k0_off16 d 0#32) (k0_off16_inb d 0) ⟨k0_dev20 d, k0_dev20_lt d⟩)
    (passStep 14 (k0_off17 d 0#32) (k0_off17_inb d 0) ⟨k0_dev21 d, k0_dev21_lt d⟩) (passStep 15 (k0_off18 d 0#32) (k0_off18_inb d 0) ⟨k0_dev22 d, k0_dev22_lt d⟩)
  four (passStep 16 (k0_off15 d 1#32) (k0_off15_inb d 1) ⟨k0_dev23 d, k0_dev23_lt d⟩) (passStep 17 (k0_off16 d 1#32) (k0_off16_inb d 1) ⟨k0_dev24 d, k0_dev24_lt d⟩)
    (passStep 18 (k0_off17 d 1#32) (k0_off17_inb d 1) ⟨k0_dev25 d, k0_dev25_lt d⟩) (passStep 19 (k0_off18 d 1#32) (k0_off18_inb d 1) ⟨k0_dev26 d, k0_dev26_lt d⟩)
  four (endStep 20 (k0_off15 d 2#32) (k0_off15_inb d 2)) (endStep 21 (k0_off16 d 2#32) (k0_off16_inb d 2))
    (endStep 22 (k0_off17 d 2#32) (k0_off17_inb d 2)) (endStep 23 (k0_off18 d 2#32) (k0_off18_inb d 2))

/-- The kernel on its own buffers. -/
abbrev bodyProg : ℙ :=
  cc0_body xM (Memref.isWhole_whole _) wM (Memref.isWhole_whole _) oM (Memref.isWhole_whole _) xbM (Memref.isWhole_whole _) wbM (Memref.isWhole_whole _)
    sM (Memref.isWhole_whole _) rM0 (Memref.isWhole_whole _) rM1 (Memref.isWhole_whole _) cc0_scratch5 cc0_scratch6 cc0_scratch7 cc0_scratch8

/-- The printed body is these steps, at the device's own number. -/
theorem bodyProg_eq : bodyProg (F := F) = (Prog.lift .deviceId >>= fun d => ringProg (F := F) d) := by
  sl_kernel_rfl

end Cert.KernelIdeal.Gen

end
-- ==== Proof.Tiles.lean ====
/-
  What the kernel computes, tile by tile. The result is a grid of 4 × 4 tiles of 512 × 512; a transfer carries one tile,
  and what it carries is a function of its number and the sending device.
-/
module

public import proofs.«01_k».proof.Proof.Steps
public import Idealize.ShloMosaic.Lib.ValueIdx

@[expose] public section

noncomputable section

namespace Cert.KernelIdeal.Gen

open Idealize.ShloMosaic Idealize.ShloMosaic.TcCoe
open Idealize.ShloMosaic.VecWindow

variable {F : FTy → Type} [FloatOps F]

/-! ## A result as a grid of tiles -/

/-- A tile, -/
abbrev Tile (F : FTy → Type) : Type := Vec F S512x512 .f32
/-- and a grid of them. -/
abbrev Grid (F : FTy → Type) : Type := Fin 4 → Fin 4 → Vec F S512x512 .f32

/-- The place of an element within its tile. -/
def inTile (y : S2048x2048.Idx) : S512x512.Idx :=
  ValueIdx.ix2 ⟨(y 0).val % 512, Nat.mod_lt _ (by decide)⟩ ⟨(y 1).val % 512, Nat.mod_lt _ (by decide)⟩

theorem tile_lt (y : S2048x2048.Idx) (a : Fin 2) : (y a).val / 512 < 4 := by
  have : (y a).val < 2048 := by
    match a with
    | 0 => exact (y 0).isLt
    | 1 => exact (y 1).isLt
  omega

/-- The array whose tiles are `T`. -/
def asm (T : Grid F) : Vec F S2048x2048 .f32 := fun y => T ⟨(y 0).val / 512, tile_lt y 0⟩ ⟨(y 1).val / 512, tile_lt y 1⟩ (inTile y)

/-- `T` with one tile replaced, and with one row of tiles replaced. -/
def setTile (T : Grid F) (i j : Fin 4) (w : Tile F) : Grid F := fun a b => if a = i ∧ b = j then w else T a b
def setRow (T : Grid F) (i : Fin 4) (R : Fin 4 → Tile F) : Grid F := fun a b => if a = i then R b else T a b

theorem setTile_same (T : Grid F) {i j a b : Fin 4} (w : Tile F) (h : a = i ∧ b = j) : setTile T i j w a b = w := if_pos h
theorem setTile_ne (T : Grid F) {i j a b : Fin 4} (w : Tile F) (h : ¬ (a = i ∧ b = j)) : setTile T i j w a b = T a b := if_neg h
theorem setRow_same (T : Grid F) {i a : Fin 4} (R : Fin 4 → Tile F) (b : Fin 4) (h : a = i) : setRow T i R a b = R b := if_pos h
theorem setRow_ne (T : Grid F) {i a : Fin 4} (R : Fin 4 → Tile F) (b : Fin 4) (h : a ≠ i) : setRow T i R a b = T a b := if_neg h

theorem tile_inb (i j : Fin 4) : ∀ a, (![512 * i.val, 512 * j.val] : Fin 2 → ℕ) a + S512x512.size a ≤ S2048x2048.size a := by
  intro a
  match a with
  | 0 => show 512 * i.val + 512 ≤ 2048; omega
  | 1 => show 512 * j.val + 512 ≤ 2048; omega
theorem row_inb (i : Fin 4) : ∀ a, (![512 * i.val, 0] : Fin 2 → ℕ) a + S512x2048.size a ≤ S2048x2048.size a := by
  intro a
  match a with
  | 0 => show 512 * i.val + 512 ≤ 2048; omega
  | 1 => show 0 + 2048 ≤ 2048; omega
theorem col_inb (j : Fin 4) : ∀ a, (![0, 512 * j.val] : Fin 2 → ℕ) a + S512x512.size a ≤ S512x2048.size a := by
  intro a
  match a with
  | 0 => show 0 + 512 ≤ 512; omega
  | 1 => show 512 * j.val + 512 ≤ 2048; omega
theorem rowx_inb (i : Fin 4) : ∀ a, (![512 * i.val, 0] : Fin 2 → ℕ) a + S512x512.size a ≤ S2048x512.size a := by
  intro a
  match a with
  | 0 => show 512 * i.val + 512 ≤ 2048; omega
  | 1 => show 0 + 512 ≤ 512; omega

/-- A grid read at equal places. -/
theorem grid_congr (T : Grid F) {i i' j j' : Fin 4} {z z' : S512x512.Idx} (hi : i = i') (hj : j = j') (hz : z = z') : T i j z = T i' j' z' := by
  rw [hi, hj, hz]

/-- A tile read out of the assembled array is the tile. -/
theorem window_asm (T : Grid F) (i j : Fin 4) :
    window (asm T) ![512 * i.val, 512 * j.val] S512x512.size (tile_inb i j) = T i j := by
  funext y
  have h0 : (y 0).val < 512 := (y 0).isLt
  have h1 : (y 1).val < 512 := (y 1).isLt
  refine grid_congr T (Fin.ext ?_) (Fin.ext ?_) ?_
  · show (512 * i.val + 1 * (y 0).val) / 512 = i.val; omega
  · show (512 * j.val + 1 * (y 1).val) / 512 = j.val; omega
  · refine Eq.trans ?_ (ValueIdx.eq_ix2 y).symm
    unfold inTile
    congr 1
    · exact Fin.ext (by show (512 * i.val + 1 * (y 0).val) % 512 = (y 0).val; omega)
    · exact Fin.ext (by show (512 * j.val + 1 * (y 1).val) % 512 = (y 1).val; omega)

/-- Every array is assembled from its own tiles. -/
theorem asm_window (f : Vec F S2048x2048 .f32) :
    asm (fun i j => window f ![512 * i.val, 512 * j.val] S512x512.size (tile_inb i j)) = f := by
  funext y
  refine congrArg f (funext fun a => Fin.ext ?_)
  match a with
  | 0 => show 512 * ((y 0).val / 512) + 1 * ((y 0).val % 512) = (y 0).val; omega
  | 1 => show 512 * ((y 1).val / 512) + 1 * ((y 1).val % 512) = (y 1).val; omega

/-- Writing a tile replaces it in the grid; -/
theorem put_asm (T : Grid F) (i j : Fin 4) (w : Tile F) :
    put (asm T) ![512 * i.val, 512 * j.val] S512x512.size w = asm (setTile T i j w) := by
  funext y
  have h0 : (y 0).val < 2048 := (y 0).isLt
  have h1 : (y 1).val < 2048 := (y 1).isLt
  by_cases h : (y 0).val / 512 = i.val ∧ (y 1).val / 512 = j.val
  · have hm : ∀ a : Fin 2, (![512 * i.val, 512 * j.val] : Fin 2 → ℕ) a ≤ (y a).val ∧ (y a).val < (![512 * i.val, 512 * j.val] : Fin 2 → ℕ) a + S512x512.size a := by
      intro a
      match a with
      | 0 => show 512 * i.val ≤ (y 0).val ∧ (y 0).val < 512 * i.val + 512; omega
      | 1 => show 512 * j.val ≤ (y 1).val ∧ (y 1).val < 512 * j.val + 512; omega
    refine (dif_pos hm).trans (Eq.trans ?_ (congrFun (setTile_same T w ⟨Fin.ext h.1, Fin.ext h.2⟩) (inTile y)).symm)
    refine congrArg w (funext fun a => Fin.ext ?_)
    match a with
    | 0 => show (y 0).val - 512 * i.val = (y 0).val % 512; omega
    | 1 => show (y 1).val - 512 * j.val = (y 1).val % 512; omega
  · have hm : ¬ ∀ a : Fin 2, (![512 * i.val, 512 * j.val] : Fin 2 → ℕ) a ≤ (y a).val ∧ (y a).val < (![512 * i.val, 512 * j.val] : Fin 2 → ℕ) a + S512x512.size a := by
      intro hm
      have a0 : 512 * i.val ≤ (y 0).val ∧ (y 0).val < 512 * i.val + 512 := hm 0
      have a1 : 512 * j.val ≤ (y 1).val ∧ (y 1).val < 512 * j.val + 512 := hm 1
      exact h (by omega)
    refine (dif_neg hm).trans (congrFun (setTile_ne T w ?_) (inTile y)).symm
    exact fun e => h ⟨congrArg Fin.val e.1, congrArg Fin.val e.2⟩

/-- and writing a row block replaces that row of tiles. -/
theorem put_row_asm (T : Grid F) (i : Fin 4) (w : Vec F S512x2048 .f32) :
    put (asm T) ![512 * i.val, 0] S512x2048.size w
      = asm (setRow T i fun j => window w ![0, 512 * j.val] S512x512.size (col_inb j)) := by
  funext y
  have h0 : (y 0).val < 2048 := (y 0).isLt
  have h1 : (y 1).val < 2048 := (y 1).isLt
  by_cases h : (y 0).val / 512 = i.val
  · have hm : ∀ a : Fin 2, (![512 * i.val, 0] : Fin 2 → ℕ) a ≤ (y a).val ∧ (y a).val < (![512 * i.val, 0] : Fin 2 → ℕ) a + S512x2048.size a := by
      intro a
      match a with
      | 0 => show 512 * i.val ≤ (y 0).val ∧ (y 0).val < 512 * i.val + 512; omega
      | 1 => show 0 ≤ (y 1).val ∧ (y 1).val < 0 + 2048; omega
    refine (dif_pos hm).trans (Eq.trans ?_ (congrFun (setRow_same T _ _ (Fin.ext h)) (inTile y)).symm)
    refine congrArg w (funext fun a => Fin.ext ?_)
    match a with
    | 0 => show (y 0).val - 512 * i.val = 0 + 1 * ((y 0).val % 512); omega
    | 1 => show (y 1).val - 0 = 512 * ((y 1).val / 512) + 1 * ((y 1).val % 512); omega
  · have hm : ¬ ∀ a : Fin 2, (![512 * i.val, 0] : Fin 2 → ℕ) a ≤ (y a).val ∧ (y a).val < (![512 * i.val, 0] : Fin 2 → ℕ) a + S512x2048.size a := by
      intro hm
      have a0 : 512 * i.val ≤ (y 0).val ∧ (y 0).val < 512 * i.val + 512 := hm 0
      exact h (by omega)
    refine (dif_neg hm).trans (congrFun (setRow_ne T _ _ ?_) (inTile y)).symm
    exact fun e => h (congrArg Fin.val e)

/-! ## What the transfers carry -/

variable (X : Dev nD → Vec F S2048x512 .bf16) (Wt : Dev nD → Vec F S512x2048 .bf16)

/-- Row block `i` of device `c`'s partial product, and its tile `j`. -/
def prodRow (c : Dev nD) (i : Fin 4) : Vec F S512x2048 .f32 :=
  k0_pay4 (window (k0_pay2 (X c)) ![512 * i.val, 0] S512x512.size (rowx_inb i)) (k0_pay3 (Wt c))
/-- Tile `j` of that row. -/
def prodTile (c : Dev nD) (i j : Fin 4) : Tile F := window (prodRow X Wt c i) ![0, 512 * j.val] S512x512.size (col_inb j)

/-- The tile transfer `k` lands on at device `c`: its row moves down the ring with the right-going hops and up with the
    left-going ones, its column is fixed by direction and subtile. -/
def row (k : ℕ) (c : Dev nD) : Fin 4 :=
  if k % 2 = 0 then ⟨(c.val + 7 - k / 4) % 4, Nat.mod_lt _ (by decide)⟩ else ⟨(c.val + 1 + k / 4) % 4, Nat.mod_lt _ (by decide)⟩
def col (k : ℕ) : Fin 4 := ⟨2 * (k % 2) + k / 2 % 2, by omega⟩

/-- The constant one half, as the activation takes it. -/
abbrev half : F .f32 := Scalar.ofBits .f32 0x3F000000#32

/-- What hop `h` sends on, given the own tile and the one that landed. -/
def onward (h : ℕ) (v : Tile F) (r : Vec F S1x1x512x512 .bf16) : Vec F S1x1x512x512 .bf16 :=
  if h < 2 then k0_pay15 v r else if h = 2 then k0_pay25 (k0_pay23 v r) half else r

/-- What device `c` sends at hop `h` in lane `j` (subtile and direction). -/
def hopVal : ℕ → ℕ → Dev nD → Vec F S1x1x512x512 .bf16
  | 0, j, c => k0_pay5 (prodTile X Wt c c (col j))
  | h + 1, j, c => onward h (prodTile X Wt c (row (4 * h + j) c) (col j)) (hopVal h j (frm j c))

/-- What device `c` sends by transfer `k`, and what transfer `k` brings it. -/
def sent (k : ℕ) (c : Dev nD) : Vec F S1x1x512x512 .bf16 := hopVal X Wt (k / 4) (k % 4) c
def landed (k : ℕ) (c : Dev nD) : Vec F S1x1x512x512 .bf16 := sent X Wt k (frm k c)

theorem col_mod (k : ℕ) : col (k % 4) = col k := Fin.ext (by unfold col; show 2 * (k % 4 % 2) + k % 4 / 2 % 2 = 2 * (k % 2) + k / 2 % 2; omega)
theorem frm_mod (k : ℕ) (c : Dev nD) : frm (k % 4) c = frm k c := by
  unfold frm; rw [show k % 4 % 2 = k % 2 by omega]

/-- The first hop sends the device's own tile; -/
theorem sent_first (k : ℕ) (hk : k < 4) (c : Dev nD) : sent X Wt k c = k0_pay5 (prodTile X Wt c c (col k)) := by
  unfold sent; rw [show k / 4 = 0 by omega, show k % 4 = k by omega]; rfl
/-- every later one sends on what landed. -/
theorem sent_next (k : ℕ) (c : Dev nD) :
    sent X Wt (k + 4) c = onward (k / 4) (prodTile X Wt c (row k c) (col k)) (landed X Wt k c) := by
  unfold landed sent
  rw [show (k + 4) / 4 = k / 4 + 1 by omega, show (k + 4) % 4 = k % 4 by omega]
  show onward (k / 4) (prodTile X Wt c (row (4 * (k / 4) + k % 4) c) (col (k % 4))) (hopVal X Wt (k / 4) (k % 4) (frm (k % 4) c)) = _
  rw [show 4 * (k / 4) + k % 4 = k by omega, col_mod, frm_mod]

/-- What step `k ≥ 8` writes into the result. -/
def fin (k : ℕ) (c : Dev nD) : Tile F :=
  if k < 12 then k0_pay24 (k0_pay23 (prodTile X Wt c (row k c) (col k)) (landed X Wt k c)) half else k0_pay37 (landed X Wt k c)

/-- The result's tiles before step `k`: the partial product, overwritten from step 8 on. -/
def tilesAt : ℕ → Dev nD → Grid F
  | 0, c => fun i j => prodTile X Wt c i j
  | k + 1, c => if k < 8 then tilesAt k c else setTile (tilesAt k c) (row k c) (col k) (fin X Wt k c)

/-- Up to step 8 the result holds the partial product; -/
theorem tilesAt_early (k : ℕ) (hk : k ≤ 8) (c : Dev nD) : tilesAt X Wt k c = fun i j => prodTile X Wt c i j := by
  induction k with
  | zero => rfl
  | succ k ih => unfold tilesAt; rw [if_pos (by omega)]; exact ih (by omega)
/-- the first eight steps leave it, -/
theorem tilesAt_step (k : ℕ) (hk : k < 8) (c : Dev nD) : tilesAt X Wt (k + 1) c = tilesAt X Wt k c := by
  rw [tilesAt, if_pos hk]
/-- and each later one writes one tile. -/
theorem tilesAt_write (k : ℕ) (hk : 8 ≤ k) (c : Dev nD) :
    tilesAt X Wt (k + 1) c = setTile (tilesAt X Wt k c) (row k c) (col k) (fin X Wt k c) := by
  rw [tilesAt, if_neg (by omega)]

/-- Up to the last reducing hop a step finds the own partial product in its tile. -/
theorem tilesAt_own (k : ℕ) (hk : k < 12) (c : Dev nD) : tilesAt X Wt k c (row k c) (col k) = prodTile X Wt c (row k c) (col k) := by
  have key : ∀ n, n ≤ k → tilesAt X Wt n c (row k c) (col k) = prodTile X Wt c (row k c) (col k) := by
    intro n
    induction n with
    | zero => intro _; rfl
    | succ n ih =>
      intro hn
      by_cases h8 : n < 8
      · rw [tilesAt_step X Wt n h8]; exact ih (by omega)
      · rw [tilesAt_write X Wt n (by omega)]
        refine (if_neg ?_).trans (ih (by omega))
        intro h
        have hc := congrArg Fin.val h.2
        have hv : 2 * (k % 2) + k / 2 % 2 = 2 * (n % 2) + n / 2 % 2 := hc
        omega
  exact key k le_rfl

/-- The kernel's result on device `c`. -/
def result (c : Dev nD) : Vec F S2048x2048 .f32 := asm (tilesAt X Wt 24 c)

end Cert.KernelIdeal.Gen

end
-- ==== Proof.Protocol.lean ====
/-
  The protocol. Every device has a barrier cell, and for each transfer a send cell (its source has been read) and a
  receive cell (its tile has landed). Each cell is used for one round:

  * the barrier cell of `c` takes one unit from each neighbour, and the unit comes with the landing tiles on that
    neighbour which `c` is to fill;
  * the send cell of transfer `k` gives back what the transfer read: the send tile, or half a share of the landed tile;
  * the receive cell of transfer `k` gives the landing tile, holding what the neighbour sent.
-/
module

public import proofs.«01_k».proof.Proof.Tiles

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The ring's rounds (a barrier cell has two duties, so duties are named by `Bool`) next to the pipeline's. -/
abbrev UB : Type := URounds (GSem nD τ sig) Bool
/-- The ghost state: the pipeline's and the ring's. -/
abbrev UU : Type := UR sig nD τ × UB

local notation "𝕄" => MT nD τ sig Unit (Elt F) ℕ UU ℕ

/-- Where each lies: the pipeline's, -/
abbrev EP : Emb (UR sig nD τ) (MT nD τ sig Unit (Elt F) ℕ UU ℕ) := embL
/-- and the ring's. -/
abbrev ER : Emb UB (MT nD τ sig Unit (Elt F) ℕ UU ℕ) := embR

variable (X : Dev nD → Vec F S2048x512 .bf16) (Wt : Dev nD → Vec F S512x2048 .bf16)

/-! ## Cells -/

/-- The barrier of device `c`, -/
abbrev barCell (c : Dev nD) : GSem nD τ sig := ((c : Thread nD τ), .reg barS)
/-- the send semaphore of its copy `k`, -/
abbrev sendCell (c : Dev nD) (k : ℕ) : GSem nD τ sig := ((c : Thread nD τ), .dma (ssem k))
/-- and the semaphore of what copy `k` brings it. -/
abbrev recvCell (c : Dev nD) (k : ℕ) : GSem nD τ sig := ((c : Thread nD τ), .dma (rsem k))

/-- What a semaphore is for. -/
inductive Role
  | bar | snd (k : ℕ) | rcv (k : ℕ) | other

/-- The transfer whose semaphore has place `x` in its direction's list of twelve. -/
def laneNo (x : ℕ) : ℕ := 4 * (x % 12 / 2) + 2 * (x % 2) + x / 12

/-- A copy's number, from its semaphore's. -/
theorem laneNo_place : ∀ k, k < 24 → laneNo (12 * (k % 2) + 2 * (k / 4 % 6) + k / 2 % 2) = k := by decide

/-- What a semaphore is for. -/
def roleOf : SemLoc sig → Role
  | .dma s => if s.val < 3 then .other else if s.val < 27 then .snd (laneNo (s.val - 3)) else .rcv (laneNo (s.val - 27))
  | .reg s => if s = barS then .bar else .other

theorem roleOf_bar : roleOf (.reg barS) = .bar := by show (if barS = barS then Role.bar else Role.other) = _; exact if_pos rfl
theorem roleOf_send (k : ℕ) (hk : k < 24) : roleOf (.dma (ssem k)) = .snd k := by
  have e : (ssem k).val = 3 + (12 * (k % 2) + 2 * (k / 4 % 6) + k / 2 % 2) := rfl
  unfold roleOf
  dsimp only
  rw [e, if_neg (by omega), if_pos (by omega), Nat.add_sub_cancel_left, laneNo_place k hk]
theorem roleOf_recv (k : ℕ) (hk : k < 24) : roleOf (.dma (rsem k)) = .rcv k := by
  have e : (rsem k).val = 27 + (12 * (k % 2) + 2 * (k / 4 % 6) + k / 2 % 2) := rfl
  unfold roleOf
  dsimp only
  rw [e, if_neg (by omega), if_neg (by omega), Nat.add_sub_cancel_left, laneNo_place k hk]

/-- What a transfer adds to each of its cells: a landing tile's credit. -/
abbrev N : ℕ := (flat (sendM 0)).view.dmaCredit
theorem N_pos : 0 < N := View.dmaCredit_pos _ (by decide)
theorem credit_land (k : ℕ) : (flat (landM k)).view.dmaCredit = N := by
  unfold landM landBuf; split <;> rfl
theorem credit_src (k : ℕ) : (flat (srcM k)).view.dmaCredit = N := by
  unfold srcM; split
  · rfl
  · exact credit_land (k - 4)

/-! ## Tiles held -/

/-- A tile of `c`'s memory held at share `q` with contents `v`, and a tile held whole with whatever it holds. -/
def tileAt (q : PosShare TreeShare) (c : Dev nD) (M : Memref sig .tc .vmem S1x1x512x512 .bf16) (v : Vec F S1x1x512x512 .bf16) : sProp 𝕄 :=
  M.view.loc (c : Thread nD τ) ↦[M.view.set]{q} M.view.rep v
/-- A slot, whatever is in it. -/
def tileFree (c : Dev nD) (M : Memref sig .tc .vmem S1x1x512x512 .bf16) : sProp 𝕄 :=
  iprop(∃ f, M.view.loc (c : Thread nD τ) ↦[M.view.set]{fullShare} f)

omit [FloatOps F] in
instance tileAt_storable (q) (c : Dev nD) (M) (v) : BI.Storable (upEmb : UEmb _ 𝕄) (tileAt (F := F) q c M v) := by unfold tileAt; infer_instance
omit [FloatOps F] in
instance tileFree_storable (c : Dev nD) (M) : BI.Storable (upEmb : UEmb _ 𝕄) (tileFree (F := F) c M) := by unfold tileFree; infer_instance

/-- A slot with a tile in it is a slot. -/
theorem tileFree_of_tileAt (c : Dev nD) (M) (v : Vec F S1x1x512x512 .bf16) : (tileAt fullShare c M v : sProp 𝕄) ⊢ tileFree c M := by
  unfold tileAt tileFree; iintro H; iexists _; iexact H

/-! ## The schedule -/

/-- The landing tiles on the right-hand neighbour (`true`, from it) and on the left-hand one (`false`). -/
def barPay (d : Bool) (c : Dev nD) : sProp 𝕄 :=
  bigSep ((Finset.range 24).filter fun k => k % 2 = if d then 0 else 1) fun k => tileFree (dest k c) (landM k)
/-- What a completed copy gives back: the slot it read, -/
def sendPay (k : ℕ) (c : Dev nD) : sProp 𝕄 :=
  tileAt (if k < 16 then fullShare else fullShare.left) c (srcM k) (sent X Wt k c)
/-- and what a landing hands over: the slot with the tile in it. -/
def recvPay (k : ℕ) (c : Dev nD) : sProp 𝕄 := tileAt fullShare c (landM k) (landed X Wt k c)

/-- The schedule: one round on each cell, with two signals on a barrier and one copy on every other. -/
def ringRd : Rounds.Schedule (GSem nD τ sig) Bool 𝕄 where
  duties g r := if r = 0 ∧ g.1.2 = .tc then (match roleOf g.2 with | .bar => Finset.univ | .other => ∅ | _ => {false}) else ∅
  unitless _ := False
  amount g _ _ := match roleOf g.2 with | .bar => 1 | _ => N
  payload g _ d := match roleOf g.2 with
    | .bar => barPay d g.1.1
    | .snd k => sendPay X Wt k g.1.1
    | .rcv k => recvPay X Wt k g.1.1
    | .other => iprop(emp)
  amount_pos g _ _ _ := by
    show 0 < match roleOf g.2 with | .bar => 1 | _ => N
    cases roleOf g.2 <;> first | exact Nat.one_pos | exact N_pos

instance barPay_storable (d) (c : Dev nD) : BI.Storable (upEmb : UEmb _ 𝕄) (barPay (F := F) d c) := by unfold barPay; infer_instance
instance sendPay_storable (k) (c : Dev nD) : BI.Storable (upEmb : UEmb _ 𝕄) (sendPay (F := F) X Wt k c) := by unfold sendPay; infer_instance
instance recvPay_storable (k) (c : Dev nD) : BI.Storable (upEmb : UEmb _ 𝕄) (recvPay (F := F) X Wt k c) := by unfold recvPay; infer_instance

instance ringRd_payload_storable (g : GSem nD τ sig) (r : ℕ) (d : Bool) :
    BI.Storable (upEmb : UEmb _ 𝕄) ((ringRd (F := F) X Wt).payload g r d) := by
  show BI.Storable upEmb (match roleOf g.2 with
    | .bar => barPay d g.1.1 | .snd k => sendPay X Wt k g.1.1 | .rcv k => recvPay X Wt k g.1.1 | .other => iprop(emp))
  cases roleOf g.2 <;> infer_instance

section Sched
variable (c : Dev nD)

/-- The schedule read cell by cell. Who pays: -/
theorem duties_bar : (ringRd (F := F) X Wt).duties (barCell c) 0 = Finset.univ := by
  dsimp only [ringRd]; rw [if_pos ⟨rfl, rfl⟩, roleOf_bar]
theorem duties_send {k : ℕ} (hk : k < 24) : (ringRd (F := F) X Wt).duties (sendCell c k) 0 = {false} := by
  dsimp only [ringRd]; rw [if_pos ⟨rfl, rfl⟩, roleOf_send k hk]
theorem duties_recv {k : ℕ} (hk : k < 24) : (ringRd (F := F) X Wt).duties (recvCell c k) 0 = {false} := by
  dsimp only [ringRd]; rw [if_pos ⟨rfl, rfl⟩, roleOf_recv k hk]
theorem duties_later (g : GSem nD τ sig) : ∀ r, 0 + 1 ≤ r → (ringRd (F := F) X Wt).duties g r = ∅ :=
  fun r hr => by dsimp only [ringRd]; exact if_neg fun h => by omega

/-- How much: -/
theorem amount_bar (d : Bool) : (ringRd (F := F) X Wt).amount (barCell c) 0 d = 1 := by
  dsimp only [ringRd]; rw [roleOf_bar]
theorem amount_send {k : ℕ} (hk : k < 24) (d : Bool) : (ringRd (F := F) X Wt).amount (sendCell c k) 0 d = N := by
  dsimp only [ringRd]; rw [roleOf_send k hk]
theorem amount_recv {k : ℕ} (hk : k < 24) (d : Bool) : (ringRd (F := F) X Wt).amount (recvCell c k) 0 d = N := by
  dsimp only [ringRd]; rw [roleOf_recv k hk]

/-- What is handed over: -/
theorem payload_bar (d : Bool) : (ringRd (F := F) X Wt).payload (barCell c) 0 d = barPay d c := by
  dsimp only [ringRd]; rw [roleOf_bar]
theorem payload_send {k : ℕ} (hk : k < 24) (d : Bool) : (ringRd (F := F) X Wt).payload (sendCell c k) 0 d = sendPay X Wt k c := by
  dsimp only [ringRd]; rw [roleOf_send k hk]
theorem payload_recv {k : ℕ} (hk : k < 24) (d : Bool) : (ringRd (F := F) X Wt).payload (recvCell c k) 0 d = recvPay X Wt k c := by
  dsimp only [ringRd]; rw [roleOf_recv k hk]

/-- The sum that a wait takes: -/
theorem expect_bar : (ringRd (F := F) X Wt).expect (barCell c) 0 = 2 := by
  unfold Schedule.expect Schedule.amountOf
  rw [duties_bar, Finset.sum_congr rfl fun d _ => amount_bar X Wt c d, Finset.sum_const, Finset.card_univ, Fintype.card_bool, smul_eq_mul]
theorem expect_send {k : ℕ} (hk : k < 24) : (ringRd (F := F) X Wt).expect (sendCell c k) 0 = N := by
  unfold Schedule.expect Schedule.amountOf; rw [duties_send X Wt c hk, Finset.sum_singleton, amount_send X Wt c hk]
theorem expect_recv {k : ℕ} (hk : k < 24) : (ringRd (F := F) X Wt).expect (recvCell c k) 0 = N := by
  unfold Schedule.expect Schedule.amountOf; rw [duties_recv X Wt c hk, Finset.sum_singleton, amount_recv X Wt c hk]

/-- What a whole round pays. The barrier's: every landing tile `c` is to fill. -/
theorem rest_bar : bigSep ((ringRd (F := F) X Wt).duties (barCell c) 0 \ ∅) (fun d => (ringRd (F := F) X Wt).payload (barCell c) 0 d)
    ⊢ bigSep (Finset.range 24) fun k => (tileFree (dest k c) (landM k) : sProp 𝕄) := by
  rw [Finset.sdiff_empty, duties_bar, bigSep_univ_eq_bigSepL [true, false] (by decide) (by decide), bigSepL_cons_cons, bigSepL_singleton,
    payload_bar, payload_bar]
  unfold barPay
  refine (Entails.of_eq (BI.bigSep_union ?_).symm).trans (Entails.of_eq ?_)
  · exact Finset.disjoint_filter.mpr fun k _ h1 h2 => by rw [if_pos rfl] at h1; rw [if_neg Bool.false_ne_true] at h2; omega
  · congr 1
    exact (by decide : (Finset.range 24).filter (fun k => k % 2 = if true = true then 0 else 1)
      ∪ (Finset.range 24).filter (fun k => k % 2 = if false = true then 0 else 1) = Finset.range 24)
/-- What a wait on a send cell returns, -/
theorem rest_send {k : ℕ} (hk : k < 24) : bigSep ((ringRd (F := F) X Wt).duties (sendCell c k) 0 \ ∅) (fun d => (ringRd (F := F) X Wt).payload (sendCell c k) 0 d)
    = sendPay X Wt k c := by
  rw [Finset.sdiff_empty, duties_send X Wt c hk, bigSep_singleton, payload_send X Wt c hk]
/-- and a wait on a landing. -/
theorem rest_recv {k : ℕ} (hk : k < 24) : bigSep ((ringRd (F := F) X Wt).duties (recvCell c k) 0 \ ∅) (fun d => (ringRd (F := F) X Wt).payload (recvCell c k) 0 d)
    = recvPay X Wt k c := by
  rw [Finset.sdiff_empty, duties_recv X Wt c hk, bigSep_singleton, payload_recv X Wt c hk]

end Sched

/-! ## What a device owes; the levels -/

/-- What device `c` owes before it starts transfer `n`: the credit of every tile it has still to send. -/
def owedFrom (n : ℕ) (c : Dev nD) : CellTallies nD τ sig Unit := ∑ k ∈ Finset.Ico n 24, tallyAt (recvCell (dest k c) k) () N
/-- At launch it owes a unit to each neighbour's barrier cell besides. -/
def owedBar (c : Dev nD) : CellTallies nD τ sig Unit := owedFrom 0 c + tallyAt (barCell (nxt c)) () 1
/-- What a device owes at the start: all its landings and both signals. -/
def owedAll (c : Dev nD) : CellTallies nD τ sig Unit := owedBar c + tallyAt (barCell (prv c)) () 1

/-- A copy started is a landing less owed. -/
theorem owedFrom_step {n : ℕ} (hn : n < 24) (c : Dev nD) :
    owedFrom n c = owedFrom (n + 1) c + tallyAt (recvCell (dest n c) n) () N := by
  unfold owedFrom; rw [Finset.sum_eq_sum_Ico_succ_bot hn, add_comm]
/-- After the last copy nothing is owed. -/
theorem owedFrom_end (c : Dev nD) : owedFrom 24 c = 0 := by
  unfold owedFrom; rw [Finset.Ico_self, Finset.sum_empty]

/-- Levels: the barrier lowest of what is owed, then the landings in order. -/
def lev (g : GSem nD τ sig) : ℕ := match roleOf g.2 with | .bar => 1 | .rcv k => 2 + k | _ => 0
/-- Every cell of a TensorCore has one level, -/
def L (g : GSem nD τ sig) : Finset Unit := if g.1.2 = .tc then {()} else ∅
/-- and this is it. -/
def lv (g : GSem nD τ sig) (_ : Unit) : ℕ := lev g

theorem L_of_ne (g : GSem nD τ sig) (h : g.1.2 ≠ .tc) : L g = ∅ := if_neg h
theorem L_tc (c : Dev nD) (sm : SemLoc sig) : L ((c : Thread nD τ), sm) = {()} := if_pos rfl

/-- A single debt is on its cell alone. -/
theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- What is still owed from copy `n` on is on later landings, -/
theorem owedFrom_pos {n : ℕ} {c : Dev nD} {g : GSem nD τ sig} {u : Unit} (h : 0 < owedFrom n c g u) :
    ∃ k, n ≤ k ∧ k < 24 ∧ g = recvCell (dest k c) k := by
  by_cases hn : n < 24
  · rw [owedFrom_step hn, Pi.add_apply, Finsupp.add_apply] at h
    by_cases h' : 0 < owedFrom (n + 1) c g u
    · obtain ⟨k, hk, hk', e⟩ := owedFrom_pos h'
      exact ⟨k, by omega, hk', e⟩
    · exact ⟨n, le_rfl, hn, tallyAt_pos (by omega : 0 < (tallyAt (recvCell (dest n c) n) () N : CellTallies nD τ sig Unit) g u)⟩
  · unfold owedFrom at h
    rw [Finset.Ico_eq_empty (by omega), Finset.sum_empty] at h
    exact absurd h (Nat.lt_irrefl 0)
termination_by 24 - n

/-- and at the start on barriers and landings. -/
theorem owedAll_pos {c : Dev nD} {g : GSem nD τ sig} {u : Unit} (h : 0 < owedAll c g u) :
    (∃ k, k < 24 ∧ g = recvCell (dest k c) k) ∨ g = barCell (nxt c) ∨ g = barCell (prv c) := by
  unfold owedAll owedBar at h
  rw [Pi.add_apply, Finsupp.add_apply, Pi.add_apply, Finsupp.add_apply] at h
  by_cases h1 : 0 < owedFrom 0 c g u
  · obtain ⟨k, -, hk, e⟩ := owedFrom_pos h1; exact .inl ⟨k, hk, e⟩
  by_cases h2 : 0 < (tallyAt (barCell (nxt c)) () 1 : CellTallies nD τ sig Unit) g u
  · exact .inr (.inl (tallyAt_pos h2))
  · exact .inr (.inr (tallyAt_pos (by omega : 0 < (tallyAt (barCell (prv c)) () 1 : CellTallies nD τ sig Unit) g u)))

theorem lev_bar (c : Dev nD) : lev (barCell c) = 1 := by unfold lev; rw [roleOf_bar]
theorem lev_send (c : Dev nD) {k : ℕ} (hk : k < 24) : lev (sendCell c k) = 0 := by unfold lev; rw [roleOf_send k hk]
theorem lev_recv (c : Dev nD) {k : ℕ} (hk : k < 24) : lev (recvCell c k) = 2 + k := by unfold lev; rw [roleOf_recv k hk]

omit [FloatOps F] in
/-- A device may wait on a cell of its own below everything it still owes. -/
theorem mayWait_from (c : Dev nD) (sm : SemLoc sig) (n : ℕ) (h : lev ((c : Thread nD τ), sm) < 2 + n) :
    (levAts L lv : sProp 𝕄) ⊢ MayWait (c : Thread nD τ) sm () (owedFrom n c) :=
  MayOwe.of_cut (L := L) (lev := lv) (1 + n) (fun p hp => by rw [Finset.mem_singleton.mp hp, L_tc]; exact Finset.mem_singleton_self _)
    (fun g u hg => by obtain ⟨k, _, _, rfl⟩ := owedFrom_pos hg; exact Finset.mem_singleton_self _)
    (fun p hp => by rw [Finset.mem_singleton.mp hp]; show lev _ ≤ _; dsimp only; omega)
    (fun g u hg => by obtain ⟨k, hk, hk', rfl⟩ := owedFrom_pos hg; unfold lv; rw [lev_recv _ hk']; omega)

omit [FloatOps F] in
/-- The pipeline's own cells are below all. -/
theorem mayWait_stage (c : Dev nD) (q : DmaSem sig) (hq : lev ((c : Thread nD τ), .dma q) = 0) (O : CellTallies nD τ sig Unit) (hO : O = owedAll c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedAll_pos hg with ⟨k, _, rfl⟩ | rfl | rfl <;> exact Finset.mem_singleton_self _)
      (fun p hp => by rw [Finset.mem_singleton.mp hp]; show lev _ ≤ _; dsimp only; omega)
      (fun g u hg => by
        unfold lv
        rcases owedAll_pos hg with ⟨k, hk, rfl⟩ | rfl | rfl
        · rw [lev_recv _ hk]; omega
        · rw [lev_bar]; omega
        · rw [lev_bar]; omega)
  · rw [MayWait_zero]; iintro -; iempintro

/-! ## The cells' records -/

/-- A device's cells: the barrier's (`none`), and of each transfer the send cell (`false`) and the receive cell (`true`). -/
abbrev CellIx : Type := Option (Fin 24 × Bool)
/-- The kernel's semaphores by copy and side, -/
def osem (i : Fin 24 × Bool) : SemLoc sig := .dma (if i.2 then rsem i.1.val else ssem i.1.val)
/-- with the barrier, -/
def csem : CellIx → SemLoc sig
  | none => .reg barS
  | some i => osem i
/-- on every device. -/
abbrev kcell (ck : Dev nD × CellIx) : GSem nD τ sig := ((ck.1 : Thread nD τ), csem ck.2)

/-- The shared knowledge: every cell's invariant, and that its first round is reached. -/
def records (K : Dev nD × CellIx → ℕ) : sProp 𝕄 :=
  iprop((bigSep Finset.univ fun ck : Dev nD × CellIx => cellInv ER (ringRd X Wt) (K ck) (kcell ck))
    ∗ bigSep Finset.univ fun ck : Dev nD × CellIx => reached ER (kcell ck) 0)

instance records_persistent (K : Dev nD × CellIx → ℕ) : BI.Persistent (records X Wt K) := by unfold records; infer_instance

/-- The names of the cells' invariants, by transfer. -/
def nmS (K : Dev nD × CellIx → ℕ) (c : Dev nD) (k : ℕ) : ℕ := if h : k < 24 then K (c, some (⟨k, h⟩, false)) else 0
def nmR (K : Dev nD × CellIx → ℕ) (c : Dev nD) (k : ℕ) : ℕ := if h : k < 24 then K (c, some (⟨k, h⟩, true)) else 0

variable (K : Dev nD × CellIx → ℕ)

/-- Read out of it: the invariant of a barrier, -/
theorem inv_bar (c : Dev nD) : records X Wt K ⊢ cellInv ER (ringRd X Wt) (K (c, none)) (barCell c) := by
  unfold records; exact sep_elim_left.trans (bigSep_elim (Finset.mem_univ (c, (none : CellIx))))
/-- of a send cell, -/
theorem inv_send (c : Dev nD) {k : ℕ} (hk : k < 24) : records X Wt K ⊢ cellInv ER (ringRd X Wt) (nmS K c k) (sendCell c k) := by
  unfold records nmS; rw [dif_pos hk]
  exact sep_elim_left.trans (bigSep_elim (Finset.mem_univ (c, (some (⟨k, hk⟩, false) : CellIx))))
/-- and of a landing; -/
theorem inv_recv (c : Dev nD) {k : ℕ} (hk : k < 24) : records X Wt K ⊢ cellInv ER (ringRd X Wt) (nmR K c k) (recvCell c k) := by
  unfold records nmR; rw [dif_pos hk]
  exact sep_elim_left.trans (bigSep_elim (Finset.mem_univ (c, (some (⟨k, hk⟩, true) : CellIx))))
/-- the round reached on a barrier, -/
theorem reached_bar (c : Dev nD) : records X Wt K ⊢ reached ER (barCell c) 0 := by
  unfold records; exact sep_elim_right.trans (bigSep_elim (Finset.mem_univ (c, (none : CellIx))))
/-- on a send cell, -/
theorem reached_send (c : Dev nD) {k : ℕ} (hk : k < 24) : records X Wt K ⊢ reached ER (sendCell c k) 0 := by
  unfold records; exact sep_elim_right.trans (bigSep_elim (Finset.mem_univ (c, (some (⟨k, hk⟩, false) : CellIx))))
/-- and on a landing. -/
theorem reached_recv (c : Dev nD) {k : ℕ} (hk : k < 24) : records X Wt K ⊢ reached ER (recvCell c k) 0 := by
  unfold records; exact sep_elim_right.trans (bigSep_elim (Finset.mem_univ (c, (some (⟨k, hk⟩, true) : CellIx))))

end Cert.KernelIdeal.Gen

end
-- ==== Proof.Rules.lean ====
/-
  One rule for each operation of the steps: what it needs, what it leaves.
-/
module

public import proofs.«01_k».proof.Proof.Protocol

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable (X : Dev nD → Vec F S2048x512 .bf16) (Wt : Dev nD → Vec F S512x2048 .bf16) (K : Dev nD × CellIx → ℕ)

abbrev 𝒱₀ : Variants := Variants.none

/-- Program `p`, run by device `c`, ends in `Q`. -/
abbrev runs (c : Dev nD) {α : Type} (p : Prog (TpuEff nD τ sig (Elt F) Λ₀ Proc.tc) α) (Q : α → sProp 𝕄) : sProp 𝕄 :=
  wp frame (wpE (defs₀ (F := F)) 𝒱₀ (c : Thread nD τ) none) Set.univ p Q

/-- A program after a program. -/
theorem runs_bind (c : Dev nD) {α β : Type} (p : Prog (TpuEff nD τ sig (Elt F) Λ₀ Proc.tc) α) (k : α → Prog (TpuEff nD τ sig (Elt F) Λ₀ Proc.tc) β)
    (Q : β → sProp 𝕄) : runs c p (fun a => runs c (k a) Q) ⊢ runs c (p >>= k) Q :=
  Entails.of_eq (wp_bind frame (wpE (defs₀ (F := F)) 𝒱₀ (c : Thread nD τ) none) Set.univ p k Q).symm

/-- A program that is done. -/
theorem runs_ret (c : Dev nD) {α : Type} (a : α) (Q : α → sProp 𝕄) : Q a ⊢ runs c (.ret a) Q := by
  unfold runs; rw [wp_ret]; exact fupd_intro

/-- What device `c` owes, whatever it has waited on. -/
def debt (c : Dev nD) (O : CellTallies nD τ sig Unit) : sProp 𝕄 := iprop(∃ W, owes (c : Thread nD τ) O W)

/-! ## Transfers -/

/-- A slot without its unit dimensions is the same elements. -/
theorem flat_set (M : Memref sig .tc .vmem S1x1x512x512 .bf16) : (flat M).view.set = M.view.set := Memref.set_view_squeeze _ _

/-- A transfer between two tiles leaves in the destination what the source held. -/
theorem read_flat_write (M M' : Memref sig .tc .vmem S1x1x512x512 .bf16) (fd : M'.view.ty.Contents (Elt F)) (fs : M.view.ty.Contents (Elt F)) :
    M'.view.read (Elt F) ((flat M').view.write (Elt F) fd ((flat M).view.read (Elt F) fs) Finset.univ) = M.view.read (Elt F) fs := by
  have e : (flat M').view.read (Elt F) ((flat M').view.write (Elt F) fd ((flat M).view.read (Elt F) fs) Finset.univ) = (flat M).view.read (Elt F) fs :=
    View.read_write_univ _ _
  funext y
  let i := Shape.reshapeEquiv (squeezes_S1x1x512x512_S512x512 : S1x1x512x512.Squeezes S512x512).numel_eq
  have h := congrFun e (i.symm y)
  have h1 : (flat M').view.read (Elt F) ((flat M').view.write (Elt F) fd ((flat M).view.read (Elt F) fs) Finset.univ) (i.symm y)
      = M'.view.read (Elt F) ((flat M').view.write (Elt F) fd ((flat M).view.read (Elt F) fs) Finset.univ) (i (i.symm y)) := rfl
  have h2 : (flat M).view.read (Elt F) fs (i.symm y) = M.view.read (Elt F) fs (i (i.symm y)) := rfl
  rw [h1, h2, Equiv.apply_symm_apply] at h
  exact h

/-- Transfer `k` to the neighbour: its source for its send cell, its landing tile on the neighbour for its receive cell. -/
theorem run_send (c : Dev nD) {k : ℕ} (hk : k < 24) (n : Dev nD) (hn : n = dest k c) (Q : PUnit → sProp 𝕄) :
    iprop(records X Wt K ∗ tileAt (if k < 16 then fullShare else fullShare.left) c (srcM k) (sent X Wt k c) ∗ tileFree (dest k c) (landM k)
        ∗ debt c (owedFrom k c) ∗ dutyTok ER (sendCell c k) 0 false ∗ dutyTok ER (recvCell (dest k c) k) 0 false)
      ⊢ iprop(((cred (tallyAt (sendCell c k) () N) ∗ debt c (owedFrom (k + 1) c)) -∗ Q ⟨⟩) -∗ runs c (send (F := F) k n) Q) := by
  subst hn
  unfold tileAt tileFree debt
  iintro ⟨#HR, Hs, ⟨%fd, Hd⟩, ⟨%W, HO⟩, HtS, HtV⟩ Hk
  ihave HIs := (inv_send X Wt K c hk) $$ HR
  ihave HIr := (inv_recv X Wt K (dest k c) hk) $$ HR
  ihave HrS := (reached_send X Wt K c hk) $$ HR
  ihave HrV := (reached_recv X Wt K (dest k c) hk) $$ HR
  rw [← flat_set (srcM k), ← flat_set (landM k)]
  iapply (Rounds.wp_send_pointsTo 𝒱₀ ER (ringRd X Wt) (c : Thread nD τ) none (c' := (dest k c : Thread nD τ))
    (src := flat (srcM k)) (dst := flat (landM k)) (κ₁ := nmS K c k) (κ₂ := nmR K (dest k c) k)
    (r₁ := 0) (r₂ := 0) (d₁ := false) (d₂ := false) (fd := fd)
    (by rw [duties_send X Wt c hk]; exact Finset.mem_singleton_self _) (by rw [duties_recv X Wt _ hk]; exact Finset.mem_singleton_self _)
    () () N (show (flat (landM k)).view.amount (.dma (rsem k)) = N from credit_land k) (amount_send X Wt c hk false) (amount_recv X Wt (dest k c) hk false) (owedFrom (k + 1) c) (owedFrom_step hk c) (W := W)
    (by rw [payload_send X Wt c hk]; unfold sendPay tileAt; rw [flat_set])
    (by
      rw [payload_recv X Wt _ hk]; unfold recvPay tileAt landed; rw [frm_dest, flat_set]
      exact pointsTo_rep_of_read (dest k c : Thread nD τ) (landM k) _ fullShare _ ((read_flat_write (srcM k) (landM k) fd _).trans (View.read_rep _ _))))
    $$ [Hs Hd HO HtS HtV HIs HIr HrS HrV]
  · isplitl [HIs]; · iexact HIs
    isplitl [HIr]; · iexact HIr
    isplitl [Hs]; · iexact Hs
    isplitl [Hd]; · iexact Hd
    isplitl [HO]; · iexact HO
    isplitl [HtS]; · iexact HtS
    isplitl [HrS]; · iexact HrS
    isplitl [HtV]; · iexact HtV
    iexact HrV
  iintro ⟨Hc, HO⟩
  iapply (runs_ret c)
  iapply Hk
  isplitl [Hc]; · iexact Hc
  iexists W; iexact HO

/-- The two waits of step `k`: what the own transfer read comes back, and the landed tile; both cells are done with. -/
theorem run_waits (c : Dev nD) {k n : ℕ} (hk : k < 24) (hn : k < n) (Q : PUnit → sProp 𝕄) :
    iprop(records X Wt K ∗ levAts L lv ∗ debt c (owedFrom n c) ∗ cred (tallyAt (sendCell c k) () N)
        ∗ (atPos ER (sendCell c k) 0 ∅ 0 ∗ atPos ER (recvCell c k) 0 ∅ 0 ∗ cred (tallyAt (recvCell c k) () N)))
      ⊢ iprop(((debt c (owedFrom n c) ∗ sendPay X Wt k c ∗ recvPay X Wt k c ∗ (semVal (sendCell c k) 0 ∗ semVal (recvCell c k) 0)) -∗ Q ⟨⟩)
          -∗ runs c (waits (F := F) k) Q) := by
  unfold debt
  iintro ⟨#HR, #Hlev, ⟨%W, HO⟩, HcS, HaS, HaV, HcV⟩ Hk
  ihave #HIs := (inv_send X Wt K c hk) $$ HR
  ihave #HIr := (inv_recv X Wt K c hk) $$ HR
  iapply (runs_bind c)
  iapply (Rounds.wp_wait_rest_token 𝒱₀ ER (ringRd X Wt) (c : Thread nD τ) none (κ := nmS K c k)
      (k' := (flat (srcM k)).view.dmaCredit) (wpE_waitDma2_eq 𝒱₀ (c : Thread nD τ) none Set.univ) (Set.mem_univ _) () (O := owedFrom n c) (W := W) (R := 0) (m := 0) (T := ∅)
      (by rw [Nat.zero_add, expect_send X Wt c hk, credit_src k])) $$ [HcS HO HaS]
  · isplitr; · iexact HIs
    isplitl [HcS]; · rw [credit_src k]; iexact HcS
    isplitl [HO]; · iexact HO
    isplitr; · iapply (mayWait_from c (.dma (ssem k)) n (by rw [lev_send c hk]; omega)); iexact Hlev
    iexact HaS
  iintro ⟨HO, HaS, -, Hp⟩
  ihave HpS := (Entails.of_eq (rest_send X Wt c hk)) $$ Hp
  iapply (runs_ret c)
  iapply (Rounds.wp_wait_rest_token 𝒱₀ ER (ringRd X Wt) (c : Thread nD τ) none (κ := nmR K c k)
      (k' := (flat (landM k)).view.dmaCredit) (wpE_waitDma2_eq 𝒱₀ (c : Thread nD τ) none Set.univ) (Set.mem_univ _) () (O := owedFrom n c) (R := 0) (m := 0) (T := ∅)
      (by rw [Nat.zero_add, expect_recv X Wt c hk, credit_land k])) $$ [HcV HO HaV]
  · isplitr; · iexact HIr
    isplitl [HcV]; · rw [credit_land k]; iexact HcV
    isplitl [HO]; · iexact HO
    isplitr; · iapply (mayWait_from c (.dma (rsem k)) n (by rw [lev_recv c hk]; omega)); iexact Hlev
    iexact HaV
  iintro ⟨HO, HaV, -, Hp⟩
  ihave HpV := (Entails.of_eq (rest_recv X Wt c hk)) $$ Hp
  imod (Rounds.cell_close ER (ringRd X Wt) (Set.mem_univ (nmS K c k)) (fun h => h) (R := 0 + 1) (duties_later X Wt (sendCell c k))) $$ [HaS] with HzS
  · isplitr; · iexact HIs
    iexact HaS
  imod (Rounds.cell_close ER (ringRd X Wt) (Set.mem_univ (nmR K c k)) (fun h => h) (R := 0 + 1) (duties_later X Wt (recvCell c k))) $$ [HaV] with HzV
  · isplitr; · iexact HIr
    iexact HaV
  iapply (runs_ret c)
  iapply Hk
  isplitl [HO]; · iexists _; iexact HO
  isplitl [HpS]; · iexact HpS
  isplitl [HpV]; · iexact HpV
  isplitl [HzS] <;> iassumption

/-! ## Loads and stores of tiles -/

/-- A landed tile is read, at any share; -/
theorem run_loadLand (c : Dev nD) (k : ℕ) (q : PosShare TreeShare) (v : Vec F S1x1x512x512 .bf16) (Q : Vec F S1x1x512x512 .bf16 → sProp 𝕄) :
    tileAt q c (landM k) v ⊢ iprop((tileAt q c (landM k) v -∗ Q v) -∗ runs c (loadLand (F := F) k) Q) := by
  unfold tileAt
  iintro H Hk
  iapply (wp_load_rect 𝒱₀ (c : Thread nD τ) none Set.univ (m := landBuf k) (subset_refl _)) $$ H
  iintro H
  iapply (runs_ret c)
  rw [show ((landBuf k).access (Rect.unit (s := S6x2x512x512) (landOff k) S1x1x512x512.size (landOff_inb k))).read (Elt F) ((landM k).view.rep v) = v
    from View.read_rep (landM k).view v]
  iapply Hk; iexact H

/-- a send tile is read for nothing, -/
theorem run_loadSend (c : Dev nD) (j : ℕ) (R : sProp 𝕄) (Q : Vec F S1x1x512x512 .bf16 → sProp 𝕄) (h : ∀ v, R ⊢ Q v) :
    iprop(tileFree c (sendM j) ∗ (tileFree c (sendM j) -∗ R)) ⊢ runs c (loadSend (F := F) j) Q := by
  unfold tileFree
  iintro ⟨⟨%f, H⟩, Hk⟩
  iapply (wp_load_rect 𝒱₀ (c : Thread nD τ) none Set.univ (m := sM) (subset_refl _)) $$ H
  iintro H
  iapply (runs_ret c)
  iapply (h _)
  iapply Hk; iexists f; iexact H

/-- and written. -/
theorem run_storeSend (c : Dev nD) (j : ℕ) (v : Vec F S1x1x512x512 .bf16) (Q : PUnit → sProp 𝕄) :
    tileFree c (sendM j) ⊢ iprop((tileAt fullShare c (sendM j) v -∗ Q ⟨⟩) -∗ runs c (storeSend (F := F) j v) Q) := by
  unfold tileFree
  iintro ⟨%f, H⟩ Hk
  iapply (wp_store 𝒱₀ (c : Thread nD τ) none Set.univ (m := sM)
    (r := Rect.unit (s := S2x2x512x512) (sendOff j) S1x1x512x512.size (sendOff_inb j)) (Mk := Finset.univ)
    (S := (sendM j).view.set) (by rw [View.setOn_univ])) $$ H
  iintro H
  iapply (runs_ret c)
  iapply Hk
  unfold tileAt
  iapply (pointsTo_rep_of_read (c : Thread nD τ) (sendM j) _ fullShare v
    (Memref.read_slice_write sM (sendOff_inb j) rfl (sendOff_inb j) f v))
  iexact H

/-! ## The result and the operands -/

/-- A whole buffer of `c` holding `f`. -/
abbrev held (c : Dev nD) (b : Ref sig .tc) (f : Buf (Elt F) ((c : Thread nD τ).loc b)) : sProp 𝕄 := ((c : Thread nD τ).loc b) ↦{fullShare} f

/-- A window of a whole buffer is read, and an unmasked store into it puts its payload there. -/
theorem readAt_whole (b : Ref sig .tc) {off size : Fin b.ty.shape.rank → ℕ} (inb inb' : ∀ a, off a + size a ≤ b.ty.shape.size a)
    (f : b.ty.Contents (Elt F)) :
    (Memref.whole b).view.readAt (Elt F) (Rect.unit off size inb).toLoadRect f = window f off size inb' := by
  exact (View.readAt_unit (Val := Elt F) (Memref.whole b).view f inb rfl inb').trans
    (congrArg (fun z => window z off size inb') (View.read_whole b f))
/-- A whole buffer read whole, -/
theorem readAt_whole_full (b : Ref sig .tc) {off : Fin b.ty.shape.rank → ℕ} (inb : ∀ a, off a + b.ty.shape.size a ≤ b.ty.shape.size a)
    (f : b.ty.Contents (Elt F)) : (Memref.whole b).view.readAt (Elt F) (Rect.unit off b.ty.shape.size inb).toLoadRect f = f :=
  (View.readAt_full (Val := Elt F) (Memref.whole b).view f inb).trans (View.read_whole b f)
/-- and written whole. -/
theorem write_whole (b : Ref sig .tc) {off size : Fin b.ty.shape.rank → ℕ} (inb : ∀ a, off a + size a ≤ b.ty.shape.size a)
    (f : b.ty.Contents (Elt F)) (w : (Rect.unit off size inb).shape.Idx → Elt F b.ty.elt) :
    ((Memref.whole b).access (Rect.unit off size inb)).write (Elt F) f w Finset.univ = put f off size w := by
  exact (View.read_whole b _).symm.trans ((View.read_writes_cons_put (Val := Elt F) (Memref.whole b).view f inb w [] rfl).trans
    (congrArg (fun z => put z off size w) (View.read_whole b f)))

/-- A window of the result is read, -/
theorem run_loadOut (c : Dev nD) (T : Grid F) (i j : Fin 4) (off : Fin 2 → ℕ) (inb : ∀ a, off a + S512x512.size a ≤ S2048x2048.size a)
    (ho : off = ![512 * i.val, 512 * j.val]) (Q : Tile F → sProp 𝕄) :
    held c cc0_stg2_0 (asm T) ⊢ iprop((held c cc0_stg2_0 (asm T) -∗ Q (T i j)) -∗ runs c (loadOut (F := F) off inb) Q) := by
  subst ho
  iintro H Hk
  iapply (wp_load 𝒱₀ (c : Thread nD τ) none Set.univ (m := oM) (Finset.subset_univ _)) $$ H
  iintro H
  iapply (runs_ret c)
  rw [show oM.view.readAt (Elt F) (Rect.unit (s := S2048x2048) ![512 * i.val, 512 * j.val] S512x512.size inb).toLoadRect (asm T) = T i j from
    (readAt_whole cc0_stg2_0 inb (tile_inb i j) (asm T)).trans (window_asm T i j)]
  iapply Hk; iexact H

/-- and written. -/
theorem run_storeOut (c : Dev nD) (T : Grid F) (i j : Fin 4) (v : Tile F) (off : Fin 2 → ℕ) (inb : ∀ a, off a + S512x512.size a ≤ S2048x2048.size a)
    (ho : off = ![512 * i.val, 512 * j.val]) (Q : PUnit → sProp 𝕄) :
    held c cc0_stg2_0 (asm T) ⊢ iprop((held c cc0_stg2_0 (asm (setTile T i j v)) -∗ Q ⟨⟩) -∗ runs c (storeOut (F := F) off inb v) Q) := by
  subst ho
  iintro H Hk
  iapply (wp_store 𝒱₀ (c : Thread nD τ) none Set.univ (m := oM)
    (r := Rect.unit (s := S2048x2048) ![512 * i.val, 512 * j.val] S512x512.size inb) (Mk := Finset.univ) (Finset.subset_univ _)) $$ H
  iintro H
  iapply (runs_ret c)
  rw [show (oM.access (Rect.unit (s := S2048x2048) ![512 * i.val, 512 * j.val] S512x512.size inb)).write (Elt F) (asm T) v Finset.univ
      = asm (setTile T i j v) from
    (write_whole cc0_stg2_0 inb (asm T) v).trans (put_asm T i j v)]
  iapply Hk; iexact H

/-- A row block of the partial product is computed into the result. -/
theorem run_row (c : Dev nD) (T : Grid F) (i : Fin 4)
    (offx : Fin 2 → ℕ) (inbx : ∀ a, offx a + S512x512.size a ≤ S2048x512.size a)
    (offo : Fin 2 → ℕ) (inbo : ∀ a, offo a + S512x2048.size a ≤ S2048x2048.size a)
    (hx : offx = ![512 * i.val, 0]) (ho : offo = ![512 * i.val, 0]) (Q : PUnit → sProp 𝕄) :
    iprop(held c cc0_scratch0 (k0_pay2 (X c)) ∗ held c cc0_scratch1 (k0_pay3 (Wt c)) ∗ held c cc0_stg2_0 (asm T))
      ⊢ iprop(((held c cc0_scratch0 (k0_pay2 (X c)) ∗ held c cc0_scratch1 (k0_pay3 (Wt c)) ∗ held c cc0_stg2_0 (asm (setRow T i (prodTile X Wt c i)))) -∗ Q ⟨⟩)
          -∗ runs c (rowStep (F := F) offx inbx offo inbo) Q) := by
  subst hx ho
  iintro ⟨Hx, Hw, H⟩ Hk
  iapply (runs_bind c)
  iapply (wp_load 𝒱₀ (c : Thread nD τ) none Set.univ (m := xbM) (Finset.subset_univ _)) $$ Hx; iintro Hx
  iapply (runs_ret c)
  iapply (runs_bind c)
  iapply (wp_load 𝒱₀ (c : Thread nD τ) none Set.univ (m := wbM) (Finset.subset_univ _)) $$ Hw; iintro Hw
  iapply (runs_ret c)
  iapply (runs_bind c)
  iapply (wp_load 𝒱₀ (c : Thread nD τ) none Set.univ (m := oM) (Finset.subset_univ _)) $$ H; iintro H
  iapply (runs_ret c)
  iapply (wp_store 𝒱₀ (c : Thread nD τ) none Set.univ (m := oM)
    (r := Rect.unit (s := S2048x2048) ![512 * i.val, 0] S512x2048.size inbo) (Mk := Finset.univ) (Finset.subset_univ _)) $$ H
  iintro H
  iapply (runs_ret c)
  rw [show xbM.view.readAt (Elt F) (Rect.unit (s := S2048x512) ![512 * i.val, 0] S512x512.size inbx).toLoadRect (k0_pay2 (X c))
      = window (k0_pay2 (X c)) ![512 * i.val, 0] S512x512.size (rowx_inb i) from readAt_whole cc0_scratch0 inbx (rowx_inb i) (k0_pay2 (X c)),
    show wbM.view.readAt (Elt F) (Rect.unit (s := S512x2048) ![0, 0] S512x2048.size inb_S512x2048_S512x2048_0_0).toLoadRect (k0_pay3 (Wt c))
      = k0_pay3 (Wt c) from readAt_whole_full cc0_scratch1 inb_S512x2048_S512x2048_0_0 (k0_pay3 (Wt c)),
    show (oM.access (Rect.unit (s := S2048x2048) ![512 * i.val, 0] S512x2048.size inbo)).write (Elt F) (asm T)
        (k0_pay4 (window (k0_pay2 (X c)) ![512 * i.val, 0] S512x512.size (rowx_inb i)) (k0_pay3 (Wt c))) Finset.univ
      = asm (setRow T i (prodTile X Wt c i)) from
    (write_whole cc0_stg2_0 inbo (asm T) (prodRow X Wt c i)).trans (put_row_asm T i _)]
  iapply Hk
  isplitl [Hx]; · iexact Hx
  isplitl [Hw]; · iexact Hw
  iexact H

end Cert.KernelIdeal.Gen

end
-- ==== Proof.Hops.lean ====
/-
  One proof for each kind of step, at any transfer number of that kind: a step takes the device's state before its
  transfer to the state before the next.
-/
module

public import proofs.«01_k».proof.Proof.Rules
public import Idealize.SL.BI.BigOpNat

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (Wt : Dev nD → Vec F S512x2048 .bf16) (K : Dev nD × CellIx → ℕ)

/-! ## The state between two steps -/

/-- What sending transfer `k` takes besides its source: the landing tile on the neighbour, and the right to use both cells. -/
def toSend (c : Dev nD) (k : ℕ) : sProp 𝕄 :=
  iprop(tileFree (dest k c) (landM k) ∗ dutyTok ER (sendCell c k) 0 false ∗ dutyTok ER (recvCell (dest k c) k) 0 false)
/-- What waiting for transfer `k` takes, and what it leaves. -/
def toWait (c : Dev nD) (k : ℕ) : sProp 𝕄 :=
  iprop(atPos ER (sendCell c k) 0 ∅ 0 ∗ atPos ER (recvCell c k) 0 ∅ 0 ∗ cred (tallyAt (recvCell c k) () N))
/-- Both semaphores of copy `k` are back at zero. -/
def waited (c : Dev nD) (k : ℕ) : sProp 𝕄 := iprop(semVal (sendCell c k) 0 ∗ semVal (recvCell c k) 0)
/-- Copy `k` is under way: its completion is owed to its sender. -/
def flying (c : Dev nD) (k : ℕ) : sProp 𝕄 := cred (tallyAt (sendCell c k) () N)

/-- Transfers before `a` have been waited for, those from `b` on are still to be sent, those between are under way. -/
def air (a b : ℕ) (c : Dev nD) : sProp 𝕄 :=
  iprop(bigSep (Finset.Ico b 24) (toSend c) ∗ debt c (owedFrom b c) ∗ bigSep (Finset.Ico a (min b 24)) (flying c))
/-- The waits from step `n` on, still to come, and the semaphores of the waits before, back at zero. -/
def pending (n : ℕ) (c : Dev nD) : sProp 𝕄 :=
  iprop(bigSep (Finset.Ico n 24) (toWait c) ∗ bigSep (Finset.Ico 0 n) (waited c))

/-- The half share of a landed tile that stays while the other half is under way. -/
def kept (c : Dev nD) (k : ℕ) : sProp 𝕄 := tileAt fullShare.right c (landM k) (landed X Wt k c)
/-- The tiles step `k` leaves for good. -/
def back (c : Dev nD) (k : ℕ) : sProp 𝕄 :=
  if k < 12 then tileFree c (landM k) else if k < 16 then tileFree c (sendM k)
  else if k < 20 then tileFree c (landM (k - 4)) else iprop(tileFree c (landM (k - 4)) ∗ tileFree c (landM k))

/-- The state before step `n`. -/
def before (n : ℕ) (c : Dev nD) : sProp 𝕄 :=
  iprop(air n (n + 4) c ∗ pending n c ∗ bigSep (Finset.Ico (max 12 (n - 4)) (min n 20)) (kept X Wt c) ∗ bigSep (Finset.Ico 0 n) (back c)
    ∗ held c cc0_stg2_0 (asm (tilesAt X Wt n c)))

/-! ## Sources -/

/-- The send slots repeat every hop. -/
theorem sendM_next (k : ℕ) : sendM (k + 4) = sendM k := by
  have h : ∀ (o o' : Fin 4 → ℕ) (e : o = o') (i : ∀ a, o a + S1x1x512x512.size a ≤ S2x2x512x512.size a) (i' : ∀ a, o' a + S1x1x512x512.size a ≤ S2x2x512x512.size a),
      sM.slice (Rect.unit (s := S2x2x512x512) o S1x1x512x512.size i) (fun _ => rfl) = sM.slice (Rect.unit (s := S2x2x512x512) o' S1x1x512x512.size i') (fun _ => rfl) := by
    rintro o _ rfl i i'; rfl
  refine h _ _ ?_ (sendOff_inb (k + 4)) (sendOff_inb k)
  show (![(k + 4) % 2, (k + 4) / 2 % 2, 0, 0] : Fin 4 → ℕ) = ![k % 2, k / 2 % 2, 0, 0]
  rw [show (k + 4) % 2 = k % 2 by omega, show (k + 4) / 2 % 2 = k / 2 % 2 by omega]

/-- Up to hop 3 a transfer's source is its send tile, held whole; -/
theorem src_send (c : Dev nD) {k : ℕ} (hk : k < 16) (v : Vec F S1x1x512x512 .bf16) :
    (tileAt (if k < 16 then fullShare else fullShare.left) c (srcM k) v : sProp 𝕄) = tileAt fullShare c (sendM k) v := by
  unfold srcM; rw [if_pos hk, if_pos hk]
/-- from hop 4 on half a share of the tile landed a hop before. -/
theorem src_land (c : Dev nD) (k : ℕ) (hk : 12 ≤ k) (v : Vec F S1x1x512x512 .bf16) :
    (tileAt (if k + 4 < 16 then fullShare else fullShare.left) c (srcM (k + 4)) v : sProp 𝕄) = tileAt fullShare.left c (landM k) v := by
  unfold srcM; rw [if_neg (by omega : ¬ k + 4 < 16), if_neg (by omega : ¬ k + 4 < 16), Nat.add_sub_cancel]

/-- From hop 3 on a copy carries what landed a hop before. -/
theorem sent_pass (k : ℕ) (hk : 12 ≤ k) (c : Dev nD) : sent X Wt (k + 4) c = landed X Wt k c := by
  rw [sent_next]; unfold onward; rw [if_neg (by omega), if_neg (by omega)]

/-- A tile's slot is shared in two halves. -/
theorem tile_halves (c : Dev nD) (M : Memref sig .tc .vmem S1x1x512x512 .bf16) (v : Vec F S1x1x512x512 .bf16) :
    (tileAt fullShare c M v : sProp 𝕄) ⊣⊢ iprop(tileAt fullShare.left c M v ∗ tileAt fullShare.right c M v) := by
  unfold tileAt; exact pointsTo_share (PosShare.mem_left_op_right fullShare)

/-- What a send cell gives back. -/
theorem sendPay_send (c : Dev nD) {k : ℕ} (hk : k < 16) : sendPay X Wt k c ⊢ tileFree c (sendM k) := by
  unfold sendPay; rw [src_send c hk]; exact tileFree_of_tileAt c _ _
/-- The half that a copy read, returned, makes the slot whole again. -/
theorem sendPay_land (c : Dev nD) {k : ℕ} (hk : 16 ≤ k) :
    iprop(sendPay X Wt k c ∗ tileAt fullShare.right c (landM (k - 4)) (landed X Wt (k - 4) c)) ⊢ tileFree c (landM (k - 4)) := by
  obtain ⟨j, rfl⟩ : ∃ j, k = j + 4 := ⟨k - 4, by omega⟩
  unfold sendPay
  rw [src_land c j (by omega), Nat.add_sub_cancel, sent_pass X Wt j (by omega)]
  exact (tile_halves c _ _).2.trans (tileFree_of_tileAt c _ _)

/-- After the last step nothing is owed. -/
theorem owedFrom_none {n : ℕ} (h : 24 ≤ n) (c : Dev nD) : owedFrom n c = 0 := by
  unfold owedFrom; rw [Finset.Ico_eq_empty_of_le h, Finset.sum_empty]

/-- Once all are sent there is nothing left to send. -/
theorem air_end {a b : ℕ} (h : 24 ≤ b) (c : Dev nD) : (air a b c : sProp 𝕄) = air a (b + 1) c := by
  unfold air
  rw [owedFrom_none h, owedFrom_none (by omega : 24 ≤ b + 1), Finset.Ico_eq_empty_of_le h, Finset.Ico_eq_empty_of_le (by omega : 24 ≤ b + 1),
    min_eq_right h, min_eq_right (by omega : 24 ≤ b + 1)]

/-! ## Sending and waiting, on the state -/

/-- Starting copy `k`: the source is lent, the peer's landing slot is filled on arrival. -/
theorem air_send (c : Dev nD) {a k : ℕ} (hk : k < 24) (ha : a ≤ k) (n : Dev nD) (hn : n = dest k c) (Q : PUnit → sProp 𝕄) :
    iprop(records X Wt K ∗ tileAt (if k < 16 then fullShare else fullShare.left) c (srcM k) (sent X Wt k c) ∗ air a k c)
      ⊢ iprop((air a (k + 1) c -∗ Q ⟨⟩) -∗ runs c (send (F := F) k n) Q) := by
  unfold air
  rw [bigSep_Ico_succ_bot hk, min_eq_left hk.le, min_eq_left (by omega : k + 1 ≤ 24), bigSep_Ico_succ_top ha]
  unfold toSend flying
  iintro ⟨HR, Hs, ⟨⟨Hd, HtS, HtV⟩, Hrest⟩, HO, Hfly⟩ Hk
  iapply (run_send X Wt K c hk n hn Q) $$ [HR Hs Hd HtS HtV HO]
  · isplitl [HR]; · iexact HR
    isplitl [Hs]; · iexact Hs
    isplitl [Hd]; · iexact Hd
    isplitl [HO]; · iexact HO
    isplitl [HtS] <;> iassumption
  iintro ⟨Hc, HO⟩
  iapply Hk
  isplitl [Hrest]; · iexact Hrest
  isplitl [HO]; · iexact HO
  isplitl [Hc] <;> iassumption

/-- Waiting for copy `k`: the source comes back, and what the sender at the other side sent has landed. -/
theorem air_waits (c : Dev nD) {k : ℕ} (hk : k < 24) (Q : PUnit → sProp 𝕄) :
    iprop(records X Wt K ∗ levAts L lv ∗ air k (k + 4) c ∗ pending k c)
      ⊢ iprop(((air (k + 1) (k + 4) c ∗ pending (k + 1) c ∗ sendPay X Wt k c ∗ recvPay X Wt k c) -∗ Q ⟨⟩) -∗ runs c (waits (F := F) k) Q) := by
  unfold air pending
  rw [bigSep_Ico_succ_bot hk, bigSep_Ico_succ_bot (by omega : k < min (k + 4) 24), bigSep_Ico_succ_top (Nat.zero_le k)]
  unfold toWait waited flying
  iintro ⟨HR, Hlev, ⟨Hsend, HO, Hc, Hfly⟩, ⟨Hw, Hws⟩, Hdone⟩ Hk
  iapply (run_waits X Wt K c hk (by omega : k < k + 4) Q) $$ [HR Hlev HO Hc Hw]
  · isplitl [HR]; · iexact HR
    isplitl [Hlev]; · iexact Hlev
    isplitl [HO]; · iexact HO
    isplitl [Hc] <;> iassumption
  iintro ⟨HO, HpS, HpR, Hz⟩
  iapply Hk
  isplitl [Hsend HO Hfly]
  · isplitl [Hsend]; · iexact Hsend
    isplitl [HO] <;> iassumption
  isplitl [Hws Hz Hdone]
  · isplitl [Hws]; · iexact Hws
    isplitl [Hz] <;> iassumption
  isplitl [HpS] <;> iassumption

/-! ## The steps -/

/-- A first send: the tile comes out of the row of the partial product that has just been computed. -/
theorem run_first (c : Dev nD) {k : ℕ} (hk : k < 4) (T : Grid F) (hT : T c (col k) = prodTile X Wt c c (col k))
    (off : Fin 2 → ℕ) (inb : ∀ a, off a + S512x512.size a ≤ S2048x2048.size a) (ho : off = ![512 * c.val, 512 * (col k).val])
    (n : Dev nD) (hn : n = dest k c) (Q : PUnit → sProp 𝕄) :
    iprop(records X Wt K ∗ air 0 k c ∗ bigSep (Finset.Ico k 4) (fun j => tileFree c (sendM j)) ∗ held c cc0_stg2_0 (asm T))
      ⊢ iprop(((air 0 (k + 1) c ∗ bigSep (Finset.Ico (k + 1) 4) (fun j => tileFree c (sendM j)) ∗ held c cc0_stg2_0 (asm T)) -∗ Q ⟨⟩)
          -∗ runs c (firstStep (F := F) k off inb n) Q) := by
  rw [bigSep_Ico_succ_bot hk]
  iintro ⟨#HR, Hair, ⟨Hs, Hss⟩, Hout⟩ Hk
  iapply (runs_bind c)
  iapply (run_loadOut c T c (col k) off inb ho _) $$ Hout; iintro Hout
  iapply (runs_bind c)
  iapply (run_loadSend c k _ _ (fun _ => BI.Entails.refl _)); isplitl [Hs]; · iexact Hs
  iintro Hs
  iapply (runs_bind c)
  iapply (run_storeSend c k _ _) $$ Hs; iintro Hs
  iapply (air_send X Wt K c (by omega : k < 24) (Nat.zero_le k) n hn Q) $$ [Hs Hair]
  · isplitr; · iexact HR
    isplitl [Hs]
    · rw [src_send c (by omega : k < 16), sent_first X Wt k hk, hT]; iexact Hs
    iexact Hair
  iintro Hair
  iapply Hk
  isplitl [Hair]; · iexact Hair
  isplitl [Hss] <;> iassumption

/-- A step of the first two reducing hops. -/
theorem run_add (c : Dev nD) {k : ℕ} (hk : k < 8)
    (off : Fin 2 → ℕ) (inb : ∀ a, off a + S512x512.size a ≤ S2048x2048.size a) (ho : off = ![512 * (row k c).val, 512 * (col k).val])
    (n : Dev nD) (hn : n = dest (k + 4) c) (Q : PUnit → sProp 𝕄) :
    iprop(records X Wt K ∗ levAts L lv ∗ before X Wt k c)
      ⊢ iprop((before X Wt (k + 1) c -∗ Q ⟨⟩) -∗ runs c (addStep (F := F) k off inb n) Q) := by
  unfold before
  rw [Finset.Ico_eq_empty_of_le (by omega : min k 20 ≤ max 12 (k - 4)), Finset.Ico_eq_empty_of_le (by omega : min (k + 1) 20 ≤ max 12 (k + 1 - 4)),
    bigSep_Ico_succ_top (Nat.zero_le k), tilesAt_step X Wt k hk]
  iintro ⟨#HR, #Hlev, Hair, Hpen, Hkept, Hback, Hout⟩ Hk
  iapply (runs_bind c)
  iapply (air_waits X Wt K c (by omega : k < 24) _) $$ [Hair Hpen]
  · isplitr; · iexact HR
    isplitr; · iexact Hlev
    isplitl [Hair] <;> iassumption
  iintro ⟨Hair, Hpen, HpS, HpR⟩
  unfold recvPay
  iapply (runs_bind c)
  iapply (run_loadOut c _ (row k c) (col k) off inb ho _) $$ Hout; iintro Hout
  iapply (runs_bind c)
  iapply (run_loadLand c k fullShare _ _) $$ HpR; iintro HpR
  iapply (runs_bind c)
  ihave Hs := (sendPay_send X Wt c (by omega : k < 16)) $$ HpS
  iapply (run_loadSend c k _ _ (fun _ => BI.Entails.refl _)); isplitl [Hs]; · iexact Hs
  iintro Hs
  iapply (runs_bind c)
  iapply (run_storeSend c k _ _) $$ Hs; iintro Hs
  iapply (air_send X Wt K c (by omega : k + 4 < 24) (by omega : k + 1 ≤ k + 4) n hn Q) $$ [Hs Hair]
  · isplitr; · iexact HR
    isplitl [Hs]
    · rw [src_send c (by omega : k + 4 < 16), sent_next, sendM_next, tilesAt_own X Wt k (by omega)]
      unfold onward; rw [if_pos (by omega : k / 4 < 2)]; iexact Hs
    iexact Hair
  iintro Hair
  iapply Hk
  isplitl [Hair]; · iexact Hair
  isplitl [Hpen]; · iexact Hpen
  isplitl [Hkept]; · iexact Hkept
  isplitl [HpR Hback]
  · isplitl [HpR]
    · unfold back; rw [if_pos (by omega : k < 12)]; iapply (tileFree_of_tileAt c _ _); iexact HpR
    iexact Hback
  iexact Hout

/-- A step of the last reducing hop. -/
theorem run_act (c : Dev nD) {k : ℕ} (hk : 8 ≤ k) (hk' : k < 12)
    (off : Fin 2 → ℕ) (inb : ∀ a, off a + S512x512.size a ≤ S2048x2048.size a) (ho : off = ![512 * (row k c).val, 512 * (col k).val])
    (n : Dev nD) (hn : n = dest (k + 4) c) (Q : PUnit → sProp 𝕄) :
    iprop(records X Wt K ∗ levAts L lv ∗ before X Wt k c)
      ⊢ iprop((before X Wt (k + 1) c -∗ Q ⟨⟩) -∗ runs c (actStep (F := F) k off inb n) Q) := by
  unfold before
  rw [Finset.Ico_eq_empty_of_le (by omega : min k 20 ≤ max 12 (k - 4)), Finset.Ico_eq_empty_of_le (by omega : min (k + 1) 20 ≤ max 12 (k + 1 - 4)),
    bigSep_Ico_succ_top (Nat.zero_le k), tilesAt_write X Wt k hk]
  iintro ⟨#HR, #Hlev, Hair, Hpen, Hkept, Hback, Hout⟩ Hk
  iapply (runs_bind c)
  iapply (air_waits X Wt K c (by omega : k < 24) _) $$ [Hair Hpen]
  · isplitr; · iexact HR
    isplitr; · iexact Hlev
    isplitl [Hair] <;> iassumption
  iintro ⟨Hair, Hpen, HpS, HpR⟩
  unfold recvPay
  iapply (runs_bind c)
  iapply (run_loadOut c _ (row k c) (col k) off inb ho _) $$ Hout; iintro Hout
  iapply (runs_bind c)
  iapply (run_loadLand c k fullShare _ _) $$ HpR; iintro HpR
  iapply (runs_bind c)
  iapply (run_loadOut c _ (row k c) (col k) off inb ho _) $$ Hout; iintro Hout
  iapply (runs_bind c)
  iapply (run_storeOut c _ (row k c) (col k) _ off inb ho _) $$ Hout; iintro Hout
  iapply (runs_bind c)
  ihave Hs := (sendPay_send X Wt c (by omega : k < 16)) $$ HpS
  iapply (run_loadSend c k _ _ (fun _ => BI.Entails.refl _)); isplitl [Hs]; · iexact Hs
  iintro Hs
  iapply (runs_bind c)
  iapply (run_storeSend c k _ _) $$ Hs; iintro Hs
  rw [tilesAt_own X Wt k hk']
  iapply (air_send X Wt K c (by omega : k + 4 < 24) (by omega : k + 1 ≤ k + 4) n hn Q) $$ [Hs Hair]
  · isplitr; · iexact HR
    isplitl [Hs]
    · rw [src_send c (by omega : k + 4 < 16), sent_next, sendM_next]
      unfold onward; rw [if_neg (by omega : ¬ k / 4 < 2), if_pos (by omega : k / 4 = 2)]; iexact Hs
    iexact Hair
  iintro Hair
  iapply Hk
  isplitl [Hair]; · iexact Hair
  isplitl [Hpen]; · iexact Hpen
  isplitl [Hkept]; · iexact Hkept
  isplitl [HpR Hback]
  · isplitl [HpR]
    · unfold back; rw [if_pos hk']; iapply (tileFree_of_tileAt c _ _); iexact HpR
    iexact Hback
  unfold fin; rw [if_pos hk']; iexact Hout

/-- What a gathering step gets back from its own transfer, the kept half of it included, and what it keeps. -/
theorem kept_pass (c : Dev nD) {k : ℕ} (hk : 12 ≤ k) (hk' : k < 20) :
    iprop(sendPay X Wt k c ∗ bigSep (Finset.Ico (max 12 (k - 4)) (min k 20)) (kept X Wt c) ∗ kept X Wt c k)
      ⊢ iprop(back c k ∗ bigSep (Finset.Ico (max 12 (k + 1 - 4)) (min (k + 1) 20)) (kept X Wt c)) := by
  rw [min_eq_left (by omega : k ≤ 20), min_eq_left (by omega : k + 1 ≤ 20)]
  by_cases h : k < 16
  · rw [max_eq_left (by omega : k - 4 ≤ 12), max_eq_left (by omega : k + 1 - 4 ≤ 12), bigSep_Ico_succ_top hk]
    unfold back; rw [if_neg (by omega : ¬ k < 12), if_pos h]
    iintro ⟨Hs, Hkept, Hnew⟩
    isplitl [Hs]; · iapply (sendPay_send X Wt c h); iexact Hs
    isplitl [Hnew] <;> iassumption
  · rw [max_eq_right (by omega : 12 ≤ k - 4), max_eq_right (by omega : 12 ≤ k + 1 - 4), bigSep_Ico_succ_bot (by omega : k - 4 < k),
      show k + 1 - 4 = k - 4 + 1 by omega, bigSep_Ico_succ_top (by omega : k - 4 + 1 ≤ k)]
    unfold back; rw [if_neg (by omega : ¬ k < 12), if_neg h, if_pos hk']
    iintro ⟨Hl, ⟨Hr, Hkept⟩, Hnew⟩
    isplitl [Hl Hr]
    · iapply (sendPay_land X Wt c (by omega : 16 ≤ k))
      unfold kept
      isplitl [Hl] <;> iassumption
    isplitl [Hnew] <;> iassumption

/-- A step of the first two gathering hops. -/
theorem run_pass (c : Dev nD) {k : ℕ} (hk : 12 ≤ k) (hk' : k < 20)
    (off : Fin 2 → ℕ) (inb : ∀ a, off a + S512x512.size a ≤ S2048x2048.size a) (ho : off = ![512 * (row k c).val, 512 * (col k).val])
    (n : Dev nD) (hn : n = dest (k + 4) c) (Q : PUnit → sProp 𝕄) :
    iprop(records X Wt K ∗ levAts L lv ∗ before X Wt k c)
      ⊢ iprop((before X Wt (k + 1) c -∗ Q ⟨⟩) -∗ runs c (passStep (F := F) k off inb n) Q) := by
  unfold before
  rw [bigSep_Ico_succ_top (Nat.zero_le k), tilesAt_write X Wt k (by omega)]
  iintro ⟨#HR, #Hlev, Hair, Hpen, Hkept, Hback, Hout⟩ Hk
  iapply (runs_bind c)
  iapply (air_waits X Wt K c (by omega : k < 24) _) $$ [Hair Hpen]
  · isplitr; · iexact HR
    isplitr; · iexact Hlev
    isplitl [Hair] <;> iassumption
  iintro ⟨Hair, Hpen, HpS, HpR⟩
  unfold recvPay
  ihave Hh := (tile_halves c _ _).1 $$ HpR
  icases Hh with ⟨Hl, Hr⟩
  iapply (runs_bind c)
  iapply (air_send X Wt K c (by omega : k + 4 < 24) (by omega : k + 1 ≤ k + 4) n hn _) $$ [Hl Hair]
  · isplitr; · iexact HR
    isplitl [Hl]
    · rw [src_land c k hk, sent_pass X Wt k hk]; iexact Hl
    iexact Hair
  iintro Hair
  iapply (runs_bind c)
  iapply (run_loadLand c k _ _ _) $$ Hr; iintro Hr
  iapply (runs_bind c)
  iapply (run_loadOut c _ (row k c) (col k) off inb ho _) $$ Hout; iintro Hout
  iapply (run_storeOut c _ (row k c) (col k) _ off inb ho _) $$ Hout; iintro Hout
  ihave Hb := (kept_pass X Wt c hk hk') $$ [HpS Hkept Hr]
  · isplitl [HpS]; · iexact HpS
    isplitl [Hkept]; · iexact Hkept
    unfold kept; iexact Hr
  icases Hb with ⟨Hb, Hkept⟩
  iapply Hk
  isplitl [Hair]; · iexact Hair
  isplitl [Hpen]; · iexact Hpen
  isplitl [Hkept]; · iexact Hkept
  isplitl [Hb Hback]
  · isplitl [Hb] <;> iassumption
  unfold fin; rw [if_neg (by omega : ¬ k < 12)]; iexact Hout

/-- A step of the last gathering hop. -/
theorem run_end (c : Dev nD) {k : ℕ} (hk : 20 ≤ k) (hk' : k < 24)
    (off : Fin 2 → ℕ) (inb : ∀ a, off a + S512x512.size a ≤ S2048x2048.size a) (ho : off = ![512 * (row k c).val, 512 * (col k).val])
    (Q : PUnit → sProp 𝕄) :
    iprop(records X Wt K ∗ levAts L lv ∗ before X Wt k c)
      ⊢ iprop((before X Wt (k + 1) c -∗ Q ⟨⟩) -∗ runs c (endStep (F := F) k off inb) Q) := by
  unfold before
  rw [bigSep_Ico_succ_top (Nat.zero_le k), tilesAt_write X Wt k (by omega), show k + 1 + 4 = k + 4 + 1 by omega,
    ← air_end (by omega : 24 ≤ k + 4) c, min_eq_right hk, min_eq_right (by omega : 20 ≤ k + 1), max_eq_right (by omega : 12 ≤ k - 4),
    max_eq_right (by omega : 12 ≤ k + 1 - 4), bigSep_Ico_succ_bot (by omega : k - 4 < 20), show k + 1 - 4 = k - 4 + 1 by omega]
  iintro ⟨#HR, #Hlev, Hair, Hpen, ⟨Hr, Hkept⟩, Hback, Hout⟩ Hk
  iapply (runs_bind c)
  iapply (air_waits X Wt K c hk' _) $$ [Hair Hpen]
  · isplitr; · iexact HR
    isplitr; · iexact Hlev
    isplitl [Hair] <;> iassumption
  iintro ⟨Hair, Hpen, HpS, HpR⟩
  unfold recvPay
  iapply (runs_bind c)
  iapply (run_loadLand c k _ _ _) $$ HpR; iintro HpR
  iapply (runs_bind c)
  iapply (run_loadOut c _ (row k c) (col k) off inb ho _) $$ Hout; iintro Hout
  iapply (run_storeOut c _ (row k c) (col k) _ off inb ho _) $$ Hout; iintro Hout
  iapply Hk
  isplitl [Hair]; · iexact Hair
  isplitl [Hpen]; · iexact Hpen
  isplitl [Hkept]; · iexact Hkept
  isplitl [HpS Hr HpR Hback]
  · isplitl [HpS Hr HpR]
    · unfold back; rw [if_neg (by omega : ¬ k < 12), if_neg (by omega : ¬ k < 16), if_neg (by omega : ¬ k < 20)]
      isplitl [HpS Hr]
      · iapply (sendPay_land X Wt c (by omega : 16 ≤ k))
        unfold kept
        isplitl [HpS] <;> iassumption
      iapply (tileFree_of_tileAt c _ _); iexact HpR
    iexact Hback
  unfold fin; rw [if_neg (by omega : ¬ k < 12)]; iexact Hout

end Cert.KernelIdeal.Gen

end
-- ==== Proof.Slots.lean ====
/-
  The scratch buffers cut into the tiles the transfers use, and put together again from the tiles the steps leave.
-/
module

public import proofs.«01_k».proof.Proof.Hops

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer held whole, whatever it holds. -/
abbrev someHeld (c : Dev nD) (b : Ref sig .tc) : sProp 𝕄 := iprop(∃ f, held c b f)

/-! ## A buffer as a family of boxes -/

section Boxes

variable (c : Dev nD) (b : Ref sig .tc) (S : Finset ℕ) (off : ℕ → Fin b.ty.shape.rank → ℕ) (size : Fin b.ty.shape.rank → ℕ)
  (inb : ∀ k a, off k a + size a ≤ b.ty.shape.size a)
  (hd : ∀ k ∈ S, ∀ k' ∈ S, k ≠ k' → ∃ a, off k a + size a ≤ off k' a ∨ off k' a + size a ≤ off k a)
  (hc : ∀ i : b.ty.shape.Idx, ∃ k ∈ S, ∀ a, off k a ≤ (i a).val ∧ (i a).val < off k a + size a)

/-- The elements of box `k`. -/
abbrev box (k : ℕ) : Finset (Idx ((c : Thread nD τ).loc b)) := ((View.whole b).slice (Rect.unit (off k) size (inb k))).set

include hd in
/-- Boxes at different places are apart, -/
theorem boxes_disjoint : ∀ k ∈ S, ∀ k' ∈ S, k ≠ k' → Disjoint (box c b off size inb k) (box c b off size inb k') := by
  intro k hk k' hk' hne
  obtain ⟨a, ha⟩ := hd k hk k' hk' hne
  unfold box
  rw [View.set_slice_whole, View.set_slice_whole]
  exact Rect.unit_disjoint a ha

include hc in
/-- and together they are the whole buffer. -/
theorem boxes_cover : S.biUnion (box c b off size inb) = Finset.univ := by
  refine Finset.eq_univ_iff_forall.mpr fun i => ?_
  obtain ⟨k, hk, hi⟩ := hc i
  refine Finset.mem_biUnion.mpr ⟨k, hk, ?_⟩
  unfold box
  rw [View.set_slice_whole]
  exact Rect.mem_set_unit.mpr hi

omit [FloatOps F] in
/-- A box with some contents. -/
theorem box_some (k : ℕ) (f : Buf (Elt F) ((c : Thread nD τ).loc b)) : (((c : Thread nD τ).loc b) ↦[box c b off size inb k]{fullShare} f : sProp 𝕄)
    ⊢ iprop(∃ f, ((c : Thread nD τ).loc b) ↦[box c b off size inb k]{fullShare} f) := by
  iintro H; iexists f; iexact H

include hd hc in
omit [FloatOps F] in
/-- A buffer is cut into its boxes, -/
theorem cut_boxes : (someHeld (F := F) c b) ⊢ bigSep S fun k => (iprop(∃ f, ((c : Thread nD τ).loc b) ↦[box c b off size inb k]{fullShare} f) : sProp 𝕄) := by
  iintro ⟨%f, H⟩
  have e : (held c b f : sProp 𝕄) = bigSep S fun k => ((c : Thread nD τ).loc b) ↦[box c b off size inb k]{fullShare} f := by
    rw [← pointsTo_biUnion S _ (boxes_disjoint c b S off size inb hd), boxes_cover c b S off size inb hc]
  ihave H := (Entails.of_eq e) $$ H
  have m : (bigSep S fun k => (((c : Thread nD τ).loc b) ↦[box c b off size inb k]{fullShare} f : sProp 𝕄))
      ⊢ bigSep S fun k => (iprop(∃ f, ((c : Thread nD τ).loc b) ↦[box c b off size inb k]{fullShare} f) : sProp 𝕄) :=
    bigSep_mono fun k _ => box_some c b off size inb k f
  iapply m; iexact H

include hd hc in
omit [FloatOps F] in
/-- and put together again. -/
theorem join_boxes (f₀ : Buf (Elt F) ((c : Thread nD τ).loc b)) :
    (bigSep S fun k => (iprop(∃ f, ((c : Thread nD τ).loc b) ↦[box c b off size inb k]{fullShare} f) : sProp 𝕄)) ⊢ someHeld (F := F) c b := by
  have : Nonempty (Buf (Elt F) ((c : Thread nD τ).loc b)) := ⟨f₀⟩
  refine (BI.bigSep_exists_pi S (fun k (f : Buf (Elt F) ((c : Thread nD τ).loc b)) => (((c : Thread nD τ).loc b) ↦[box c b off size inb k]{fullShare} f : sProp 𝕄))).trans ?_
  iintro ⟨%fs, H⟩
  ihave H := (pointsTo_biUnion_join S (box c b off size inb) fs f₀ (boxes_disjoint c b S off size inb hd)) $$ H
  icases H with ⟨%g, -, H⟩
  iexists g
  have e : (((c : Thread nD τ).loc b) ↦[S.biUnion (box c b off size inb)]{fullShare} g : sProp 𝕄) = held c b g := by
    rw [boxes_cover c b S off size inb hc]
  iapply (Entails.of_eq e); iexact H

end Boxes

/-! ## The landing buffers and the send buffer -/

/-- The transfers of one direction: rightwards (0) or leftwards (1). -/
abbrev lane (p : ℕ) : Finset ℕ := (Finset.range 24).filter fun k => k % 2 = p

/-- The landing slots of one direction are apart, -/
theorem land_apart (p : ℕ) : ∀ k ∈ lane p, ∀ k' ∈ lane p, k ≠ k' →
    ∃ a, landOff k a + S1x1x512x512.size a ≤ landOff k' a ∨ landOff k' a + S1x1x512x512.size a ≤ landOff k a := by
  intro k hk k' hk' hne
  obtain ⟨h1, h2⟩ := Finset.mem_filter.mp hk
  obtain ⟨h1', h2'⟩ := Finset.mem_filter.mp hk'
  rw [Finset.mem_range] at h1 h1'
  by_cases h : k / 4 = k' / 4
  · refine ⟨1, ?_⟩
    show k / 2 % 2 + 1 ≤ k' / 2 % 2 ∨ k' / 2 % 2 + 1 ≤ k / 2 % 2
    omega
  · refine ⟨0, ?_⟩
    show k / 4 % 6 + 1 ≤ k' / 4 % 6 ∨ k' / 4 % 6 + 1 ≤ k / 4 % 6
    omega

/-- and fill their buffer. -/
theorem land_all (p : ℕ) (hp : p < 2) (i : S6x2x512x512.Idx) :
    ∃ k ∈ lane p, ∀ a, landOff k a ≤ (i a).val ∧ (i a).val < landOff k a + S1x1x512x512.size a := by
  have h0 : (i 0).val < 6 := (i 0).isLt
  have h1 : (i 1).val < 2 := (i 1).isLt
  have h2 : (i 2).val < 512 := (i 2).isLt
  have h3 : (i 3).val < 512 := (i 3).isLt
  refine ⟨4 * (i 0).val + 2 * (i 1).val + p, Finset.mem_filter.mpr ⟨Finset.mem_range.mpr (by omega), by omega⟩, ?_⟩
  intro a
  match a with
  | 0 => show (4 * (i 0).val + 2 * (i 1).val + p) / 4 % 6 ≤ (i 0).val ∧ (i 0).val < (4 * (i 0).val + 2 * (i 1).val + p) / 4 % 6 + 1; omega
  | 1 => show (4 * (i 0).val + 2 * (i 1).val + p) / 2 % 2 ≤ (i 1).val ∧ (i 1).val < (4 * (i 0).val + 2 * (i 1).val + p) / 2 % 2 + 1; omega
  | 2 => exact ⟨Nat.zero_le _, by show (i 2).val < 0 + 512; omega⟩
  | 3 => exact ⟨Nat.zero_le _, by show (i 3).val < 0 + 512; omega⟩

/-- So are the send slots, -/
theorem send_apart : ∀ k ∈ Finset.Ico 0 4, ∀ k' ∈ Finset.Ico 0 4, k ≠ k' →
    ∃ a, sendOff k a + S1x1x512x512.size a ≤ sendOff k' a ∨ sendOff k' a + S1x1x512x512.size a ≤ sendOff k a := by
  intro k hk k' hk' hne
  rw [Finset.mem_Ico] at hk hk'
  by_cases h : k % 2 = k' % 2
  · refine ⟨1, ?_⟩
    show k / 2 % 2 + 1 ≤ k' / 2 % 2 ∨ k' / 2 % 2 + 1 ≤ k / 2 % 2
    omega
  · refine ⟨0, ?_⟩
    show k % 2 + 1 ≤ k' % 2 ∨ k' % 2 + 1 ≤ k % 2
    omega

/-- which fill theirs. -/
theorem send_all (i : S2x2x512x512.Idx) :
    ∃ k ∈ Finset.Ico 0 4, ∀ a, sendOff k a ≤ (i a).val ∧ (i a).val < sendOff k a + S1x1x512x512.size a := by
  have h0 : (i 0).val < 2 := (i 0).isLt
  have h1 : (i 1).val < 2 := (i 1).isLt
  have h2 : (i 2).val < 512 := (i 2).isLt
  have h3 : (i 3).val < 512 := (i 3).isLt
  refine ⟨(i 0).val + 2 * (i 1).val, Finset.mem_Ico.mpr (by omega), ?_⟩
  intro a
  match a with
  | 0 => show ((i 0).val + 2 * (i 1).val) % 2 ≤ (i 0).val ∧ (i 0).val < ((i 0).val + 2 * (i 1).val) % 2 + 1; omega
  | 1 => show ((i 0).val + 2 * (i 1).val) / 2 % 2 ≤ (i 1).val ∧ (i 1).val < ((i 0).val + 2 * (i 1).val) / 2 % 2 + 1; omega
  | 2 => exact ⟨Nat.zero_le _, by show (i 2).val < 0 + 512; omega⟩
  | 3 => exact ⟨Nat.zero_le _, by show (i 3).val < 0 + 512; omega⟩

section Tiles
variable (c : Dev nD)

omit [FloatOps F] in
/-- A landing tile, as a box of its direction's buffer. -/
theorem land_right {k : ℕ} (hk : k ∈ lane 0) : (tileFree c (landM k) : sProp 𝕄)
    = iprop(∃ f, ((c : Thread nD τ).loc cc0_scratch3) ↦[box c cc0_scratch3 landOff S1x1x512x512.size landOff_inb k]{fullShare} f) := by
  unfold tileFree landM landBuf; rw [if_pos (Finset.mem_filter.mp hk).2]
omit [FloatOps F] in
/-- A slot of the left-going buffer. -/
theorem land_left {k : ℕ} (hk : k ∈ lane 1) : (tileFree c (landM k) : sProp 𝕄)
    = iprop(∃ f, ((c : Thread nD τ).loc cc0_scratch4) ↦[box c cc0_scratch4 landOff S1x1x512x512.size landOff_inb k]{fullShare} f) := by
  unfold tileFree landM landBuf; rw [if_neg (by rw [(Finset.mem_filter.mp hk).2]; exact Nat.one_ne_zero)]

omit [FloatOps F] in
/-- The right-going landing buffer is its slots, -/
theorem cut_right : someHeld (F := F) c cc0_scratch3 ⊢ bigSep (lane 0) fun k => (tileFree c (landM k) : sProp 𝕄) := by
  rw [bigSep_congr fun k hk => land_right (F := F) c hk]
  exact cut_boxes c cc0_scratch3 (lane 0) landOff S1x1x512x512.size landOff_inb (land_apart 0) (land_all 0 (by decide))
omit [FloatOps F] in
/-- and the left-going one, -/
theorem cut_left : someHeld (F := F) c cc0_scratch4 ⊢ bigSep (lane 1) fun k => (tileFree c (landM k) : sProp 𝕄) := by
  rw [bigSep_congr fun k hk => land_left (F := F) c hk]
  exact cut_boxes c cc0_scratch4 (lane 1) landOff S1x1x512x512.size landOff_inb (land_apart 1) (land_all 1 (by decide))
omit [FloatOps F] in
/-- and the send buffer; -/
theorem cut_send : someHeld (F := F) c cc0_scratch2 ⊢ bigSep (Finset.Ico 0 4) fun k => (tileFree c (sendM k) : sProp 𝕄) :=
  cut_boxes c cc0_scratch2 (Finset.Ico 0 4) sendOff S1x1x512x512.size sendOff_inb send_apart send_all

/-- and back: the right-going one, -/
theorem join_right : (bigSep (lane 0) fun k => (tileFree c (landM k) : sProp 𝕄)) ⊢ someHeld (F := F) c cc0_scratch3 := by
  rw [bigSep_congr fun k hk => land_right (F := F) c hk]
  exact join_boxes c cc0_scratch3 (lane 0) landOff S1x1x512x512.size landOff_inb (land_apart 0) (land_all 0 (by decide)) (fun _ => Scalar.ofBits .bf16 0)
/-- the left-going one, -/
theorem join_left : (bigSep (lane 1) fun k => (tileFree c (landM k) : sProp 𝕄)) ⊢ someHeld (F := F) c cc0_scratch4 := by
  rw [bigSep_congr fun k hk => land_left (F := F) c hk]
  exact join_boxes c cc0_scratch4 (lane 1) landOff S1x1x512x512.size landOff_inb (land_apart 1) (land_all 1 (by decide)) (fun _ => Scalar.ofBits .bf16 0)
/-- the send buffer. -/
theorem join_send : (bigSep (Finset.Ico 0 4) fun k => (tileFree c (sendM k) : sProp 𝕄)) ⊢ someHeld (F := F) c cc0_scratch2 :=
  join_boxes c cc0_scratch2 (Finset.Ico 0 4) sendOff S1x1x512x512.size sendOff_inb send_apart send_all (fun _ => Scalar.ofBits .bf16 0)

omit [FloatOps F] in
/-- What a device pays its neighbours' barrier cells with: its own landing buffers. -/
theorem pay_left : someHeld (F := F) c cc0_scratch3 ⊢ barPay true (prv c) := by
  refine (cut_right c).trans (Entails.of_eq ?_)
  unfold barPay
  rw [if_pos rfl]
  exact bigSep_congr fun k hk => by unfold dest; rw [if_pos (Finset.mem_filter.mp hk).2, nxt_prv]
omit [FloatOps F] in
/-- A signal hands a neighbour the landing slots that it will fill. -/
theorem pay_right : someHeld (F := F) c cc0_scratch4 ⊢ barPay false (nxt c) := by
  refine (cut_left c).trans (Entails.of_eq ?_)
  unfold barPay
  rw [if_neg Bool.false_ne_true]
  exact bigSep_congr fun k hk => by unfold dest; rw [if_neg (by rw [(Finset.mem_filter.mp hk).2]; exact Nat.one_ne_zero), prv_nxt]

/-! ## At the end -/

/-- Two adjoining ranges are one. -/
theorem bigSep_Ico_cat {a b d : ℕ} (h : a ≤ b) (h' : b ≤ d) (Φ : ℕ → sProp 𝕄) :
    bigSep (Finset.Ico a d) Φ = iprop(bigSep (Finset.Ico a b) Φ ∗ bigSep (Finset.Ico b d) Φ) := by
  rw [← Finset.Ico_union_Ico_eq_Ico h h']
  exact BI.bigSep_union (Finset.Ico_disjoint_Ico_consecutive a b d)

/-- A range renumbered. -/
theorem bigSep_Ico_shift (a b n : ℕ) (Φ : ℕ → sProp 𝕄) : bigSep (Finset.Ico (a + n) (b + n)) Φ = bigSep (Finset.Ico a b) fun k => Φ (k + n) := by
  rw [← Finset.map_add_right_Ico]
  exact bigSep_map _

/-- The tiles the steps leave are all the landing tiles and all the send tiles. -/
theorem all_back : bigSep (Finset.Ico 0 24) (back (F := F) c)
    ⊢ iprop((bigSep (Finset.Ico 0 24) fun k => tileFree c (landM k)) ∗ bigSep (Finset.Ico 0 4) fun k => tileFree c (sendM k)) := by
  have e1 : bigSep (Finset.Ico 0 12) (back (F := F) c) = bigSep (Finset.Ico 0 12) fun k => tileFree c (landM k) :=
    bigSep_congr fun k hk => by unfold back; rw [if_pos (Finset.mem_Ico.mp hk).2]
  have e2 : bigSep (Finset.Ico 12 16) (back (F := F) c) = bigSep (Finset.Ico 0 4) fun k => tileFree c (sendM k) := by
    rw [show Finset.Ico 12 16 = Finset.Ico (0 + 12) (4 + 12) from rfl, bigSep_Ico_shift]
    refine bigSep_congr fun k hk => ?_
    have := (Finset.mem_Ico.mp hk).2
    unfold back
    rw [if_neg (by omega), if_pos (by omega), show sendM (k + 12) = sendM k from
      (sendM_next (k + 8)).trans ((sendM_next (k + 4)).trans (sendM_next k))]
  have e3 : bigSep (Finset.Ico 16 20) (back (F := F) c) = bigSep (Finset.Ico 12 16) fun k => tileFree c (landM k) := by
    rw [show Finset.Ico 16 20 = Finset.Ico (12 + 4) (16 + 4) from rfl, bigSep_Ico_shift]
    refine bigSep_congr fun k hk => ?_
    have := Finset.mem_Ico.mp hk
    unfold back
    rw [if_neg (by omega), if_neg (by omega), if_pos (by omega), Nat.add_sub_cancel]
  have e4 : bigSep (Finset.Ico 20 24) (back (F := F) c)
      = iprop((bigSep (Finset.Ico 16 20) fun k => tileFree c (landM k)) ∗ bigSep (Finset.Ico 20 24) fun k => tileFree c (landM k)) := by
    rw [show Finset.Ico 20 24 = Finset.Ico (16 + 4) (20 + 4) from rfl, bigSep_Ico_shift, bigSep_Ico_shift, ← bigSep_sep']
    refine bigSep_congr fun k hk => ?_
    have := Finset.mem_Ico.mp hk
    unfold back
    rw [if_neg (by omega), if_neg (by omega), if_neg (by omega), Nat.add_sub_cancel]
  rw [bigSep_Ico_cat (by decide : 0 ≤ 12) (by decide : 12 ≤ 24), bigSep_Ico_cat (by decide : 12 ≤ 16) (by decide : 16 ≤ 24),
    bigSep_Ico_cat (by decide : 16 ≤ 20) (by decide : 20 ≤ 24), e1, e2, e3, e4,
    bigSep_Ico_cat (by decide : 0 ≤ 12) (by decide : 12 ≤ 24) (fun k => tileFree c (landM k)),
    bigSep_Ico_cat (by decide : 12 ≤ 16) (by decide : 16 ≤ 24) (fun k => tileFree c (landM k)),
    bigSep_Ico_cat (by decide : 16 ≤ 20) (by decide : 20 ≤ 24) (fun k => tileFree c (landM k))]
  iintro ⟨H1, H2, H3, H4, H5⟩
  isplitr [H2]
  · isplitl [H1]; · iexact H1
    isplitl [H3]; · iexact H3
    isplitl [H4] <;> iassumption
  iexact H2

/-- After the last step the buffers are whole again. -/
theorem scratch_back : bigSep (Finset.Ico 0 24) (back (F := F) c)
    ⊢ iprop(someHeld c cc0_scratch2 ∗ someHeld c cc0_scratch3 ∗ someHeld c cc0_scratch4) := by
  have e : (bigSep (Finset.Ico 0 24) fun k => (tileFree c (landM k) : sProp 𝕄))
      = iprop((bigSep (lane 0) fun k => tileFree c (landM k)) ∗ bigSep (lane 1) fun k => tileFree c (landM k)) := by
    refine Eq.trans ?_ (BI.bigSep_union (by decide : Disjoint (lane 0) (lane 1)))
    exact congrArg (fun S => bigSep S fun k => (tileFree c (landM k) : sProp 𝕄)) (by decide)
  refine (all_back c).trans ?_
  rw [e]
  iintro ⟨⟨H0, H1⟩, H2⟩
  isplitl [H2]; · iapply (join_send c); iexact H2
  isplitl [H0]; · iapply (join_right c); iexact H0
  iapply (join_left c); iexact H1

end Tiles

end Cert.KernelIdeal.Gen

end
-- ==== Proof.Body.lean ====
/-
  The whole body: the barrier and the copies of the operands, the partial product interleaved with the first hop's
  transfers, then the steps in order.
-/
module

public import proofs.«01_k».proof.Proof.Slots

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc) PUnit

variable (X : Dev nD → Vec F S2048x512 .bf16) (Wt : Dev nD → Vec F S512x2048 .bf16) (K : Dev nD × CellIx → ℕ) (c : Dev nD)

/-! ## The barrier and the operands -/

/-- The two signalled peers are the neighbours: first the left one, -/
theorem dev1_eq : (⟨k0_dev1 c, k0_dev1_lt c⟩ : Dev nD) = prv c := Fin.ext ((k0_dev1_eq c).trans (by revert c; decide))
/-- then the right one. -/
theorem dev2_eq : (⟨k0_dev2 c, k0_dev2_lt c⟩ : Dev nD) = nxt c := Fin.ext ((k0_dev2_eq c).trans (by revert c; decide))

/-- One unit to a neighbour's barrier cell, with the landing tiles it is to fill. -/
theorem run_signal (n : Dev nD) (e : Dev nD) (he : e = n) (d : Bool) (O O' : CellTallies nD τ sig Unit) (hO : O' = O + tallyAt (barCell n) () 1) (Q : PUnit → sProp 𝕄) :
    iprop(records X Wt K ∗ debt c O' ∗ dutyTok ER (barCell n) 0 d ∗ barPay d n)
      ⊢ iprop((debt c O -∗ Q ⟨⟩) -∗ runs c (semSignalWord e barS 1#32) Q) := by
  subst he
  unfold debt
  iintro ⟨#HR, ⟨%W, HO⟩, Ht, Hp⟩ Hk
  ihave #HI := (inv_bar X Wt K e) $$ HR
  ihave #Hr := (reached_bar X Wt K e) $$ HR
  unfold semSignalWord
  iapply (Rounds.wp_signal 𝒱₀ ER (ringRd X Wt) (c : Thread nD τ) none (dst := (e : Thread nD τ)) (κ := K (e, none))
      (d := d) (by rw [duties_bar]; exact Finset.mem_univ _) ((amount_bar X Wt e d).trans (by decide)) () O hO)
    $$ [HO Ht Hp]
  · isplitr; · iexact HI
    isplitl [HO]; · iexact HO
    isplitl [Ht]; · iexact Ht
    isplitl [Hp]; · rw [payload_bar]; iexact Hp
    iexact Hr
  iintro HO
  iapply (runs_ret c)
  iapply Hk
  iexists W; iexact HO

/-- The wait for both neighbours: the landing tiles on them. -/
theorem run_wait (Q : PUnit → sProp 𝕄) :
    iprop(records X Wt K ∗ levAts L lv ∗ debt c (owedFrom 0 c) ∗ cred (tallyAt (barCell c) () 2) ∗ atPos ER (barCell c) 0 ∅ 0)
      ⊢ iprop(((debt c (owedFrom 0 c) ∗ semVal (barCell c) 0 ∗ bigSep (Finset.range 24) fun k => tileFree (dest k c) (landM k)) -∗ Q ⟨⟩)
          -∗ runs c (semWaitWord barS 2#32) Q) := by
  unfold debt
  iintro ⟨#HR, #Hlev, ⟨%W, HO⟩, Hc, Hat⟩ Hk
  ihave #HI := (inv_bar X Wt K c) $$ HR
  unfold semWaitWord
  iapply (Rounds.wp_wait_rest_token 𝒱₀ ER (ringRd X Wt) (c : Thread nD τ) none (κ := K (c, none))
      (wpE_semWait_eq 𝒱₀ (c : Thread nD τ) none Set.univ) (Set.mem_univ _) () (O := owedFrom 0 c) (W := W) (R := 0) (m := 0) (T := ∅)
      (by rw [expect_bar]; decide)) $$ [Hc HO Hat]
  · isplitr; · iexact HI
    isplitl [Hc]; · iexact Hc
    isplitl [HO]; · iexact HO
    isplitr; · iapply (mayWait_from c (.reg barS) 0 (by rw [lev_bar c]; omega)); iexact Hlev
    iexact Hat
  iintro ⟨HO, Hat, -, Hpay⟩
  ihave Hp := (rest_bar X Wt c) $$ Hpay
  imod (Rounds.cell_close ER (ringRd X Wt) (Set.mem_univ (K (c, none))) (fun h => h) (R := 0 + 1) (duties_later X Wt (barCell c))) $$ [Hat] with Hz
  · isplitr; · iexact HI
    iexact Hat
  iapply (runs_ret c)
  iapply Hk
  isplitl [HO]; · iexists _; iexact HO
  isplitl [Hz] <;> iassumption

/-- What the barrier hands `c`, and what stays of it. -/
theorem run_open (Q : PUnit → sProp 𝕄) :
    iprop(records X Wt K ∗ levAts L lv
        ∗ (debt c (owedAll c) ∗ dutyTok ER (barCell (prv c)) 0 true ∗ dutyTok ER (barCell (nxt c)) 0 false
            ∗ cred (tallyAt (barCell c) () 2) ∗ atPos ER (barCell c) 0 ∅ 0)
        ∗ someHeld c cc0_scratch3 ∗ someHeld c cc0_scratch4
        ∗ held c cc0_stg0_0 (X c) ∗ held c cc0_stg1_0 (Wt c) ∗ someHeld c cc0_scratch0 ∗ someHeld c cc0_scratch1)
      ⊢ iprop(((debt c (owedFrom 0 c) ∗ semVal (barCell c) 0 ∗ (bigSep (Finset.range 24) fun k => tileFree (dest k c) (landM k))
            ∗ held c cc0_stg0_0 (X c) ∗ held c cc0_stg1_0 (Wt c) ∗ held c cc0_scratch0 (k0_pay2 (X c)) ∗ held c cc0_scratch1 (k0_pay3 (Wt c))) -∗ Q ⟨⟩)
          -∗ runs c (openStep (F := F) c) Q) := by
  iintro ⟨#HR, #Hlev, ⟨HO, HtP, HtN, Hc, Hat⟩, H3, H4, Hx, Hw, ⟨%f0, H0⟩, ⟨%f1, H1⟩⟩ Hk
  ihave Hp3 := (pay_left c) $$ H3
  ihave Hp4 := (pay_right c) $$ H4
  iapply (runs_bind c)
  iapply (run_signal X Wt K c (prv c) _ (dev1_eq c) true (owedBar c) (owedAll c) rfl _) $$ [HO HtP Hp3]
  · isplitr; · iexact HR
    isplitl [HO]; · iexact HO
    isplitl [HtP] <;> iassumption
  iintro HO
  iapply (runs_bind c)
  iapply (run_signal X Wt K c (nxt c) _ (dev2_eq c) false (owedFrom 0 c) (owedBar c) rfl _) $$ [HO HtN Hp4]
  · isplitr; · iexact HR
    isplitl [HO]; · iexact HO
    isplitl [HtN] <;> iassumption
  iintro HO
  iapply (runs_bind c)
  iapply (run_wait X Wt K c _) $$ [HO Hc Hat]
  · isplitr; · iexact HR
    isplitr; · iexact Hlev
    isplitl [HO]; · iexact HO
    isplitl [Hc] <;> iassumption
  iintro ⟨HO, Hz, Hp⟩
  iapply (runs_bind c)
  iapply (wp_load 𝒱₀ (c : Thread nD τ) none Set.univ (m := xM) (Finset.subset_univ _)) $$ Hx; iintro Hx
  iapply (runs_ret c)
  iapply (runs_bind c)
  iapply (wp_load 𝒱₀ (c : Thread nD τ) none Set.univ (m := xbM) (Finset.subset_univ _)) $$ H0; iintro H0
  iapply (runs_ret c)
  iapply (runs_bind c)
  iapply (wp_store 𝒱₀ (c : Thread nD τ) none Set.univ (m := xbM)
    (r := Rect.unit (s := S2048x512) ![0, 0] S2048x512.size inb_S2048x512_S2048x512_0_0) (Mk := Finset.univ) (Finset.subset_univ _)) $$ H0; iintro H0
  iapply (runs_ret c)
  iapply (runs_bind c)
  iapply (wp_load 𝒱₀ (c : Thread nD τ) none Set.univ (m := wM) (Finset.subset_univ _)) $$ Hw; iintro Hw
  iapply (runs_ret c)
  iapply (runs_bind c)
  iapply (wp_load 𝒱₀ (c : Thread nD τ) none Set.univ (m := wbM) (Finset.subset_univ _)) $$ H1; iintro H1
  iapply (runs_ret c)
  iapply (wp_store 𝒱₀ (c : Thread nD τ) none Set.univ (m := wbM)
    (r := Rect.unit (s := S512x2048) ![0, 0] S512x2048.size inb_S512x2048_S512x2048_0_0) (Mk := Finset.univ) (Finset.subset_univ _)) $$ H1; iintro H1
  iapply (runs_ret c)
  have hz : (![0, 0] : Fin 2 → Nat) = fun _ => 0 := funext fun a => by fin_cases a <;> rfl
  rw [show xM.view.readAt (Elt F) (Rect.unit (s := S2048x512) ![0, 0] S2048x512.size inb_S2048x512_S2048x512_0_0).toLoadRect (X c) = X c from
      readAt_whole_full cc0_stg0_0 inb_S2048x512_S2048x512_0_0 (X c),
    show wM.view.readAt (Elt F) (Rect.unit (s := S512x2048) ![0, 0] S512x2048.size inb_S512x2048_S512x2048_0_0).toLoadRect (Wt c) = Wt c from
      readAt_whole_full cc0_stg1_0 inb_S512x2048_S512x2048_0_0 (Wt c),
    show (xbM.access (Rect.unit (s := S2048x512) ![0, 0] S2048x512.size inb_S2048x512_S2048x512_0_0)).write (Elt F) f0 (k0_pay2 (X c)) Finset.univ
      = k0_pay2 (X c) from Memref.write_access_unit_zero_univ (Elt F) cc0_scratch0 hz _ f0 _,
    show (wbM.access (Rect.unit (s := S512x2048) ![0, 0] S512x2048.size inb_S512x2048_S512x2048_0_0)).write (Elt F) f1 (k0_pay3 (Wt c)) Finset.univ
      = k0_pay3 (Wt c) from Memref.write_access_unit_zero_univ (Elt F) cc0_scratch1 hz _ f1 _]
  iapply Hk
  isplitl [HO]; · iexact HO
  isplitl [Hz]; · iexact Hz
  isplitl [Hp]; · iexact Hp
  isplitl [Hx]; · iexact Hx
  isplitl [Hw]; · iexact Hw
  isplitl [H0] <;> iassumption

/-! ## The product and the first transfers -/

/-- The operands' copies. -/
def ops : sProp 𝕄 := iprop(held c cc0_scratch0 (k0_pay2 (X c)) ∗ held c cc0_scratch1 (k0_pay3 (Wt c)))
/-- Between the first hop's transfers. -/
def early (n : ℕ) (T : Grid F) : sProp 𝕄 :=
  iprop(ops X Wt c ∗ air 0 n c ∗ bigSep (Finset.Ico n 4) (fun j => tileFree c (sendM j)) ∗ held c cc0_stg2_0 (asm T))

/-- One row block is multiplied and stored into the result. -/
theorem row_early (n : ℕ) (T : Grid F) (i : Fin 4)
    (offx : Fin 2 → ℕ) (inbx : ∀ a, offx a + S512x512.size a ≤ S2048x512.size a)
    (offo : Fin 2 → ℕ) (inbo : ∀ a, offo a + S512x2048.size a ≤ S2048x2048.size a)
    (hx : offx = ![512 * i.val, 0]) (ho : offo = ![512 * i.val, 0]) (Q : PUnit → sProp 𝕄) :
    early X Wt c n T ⊢ iprop((early X Wt c n (setRow T i (prodTile X Wt c i)) -∗ Q ⟨⟩) -∗ runs c (rowStep (F := F) offx inbx offo inbo) Q) := by
  unfold early ops
  iintro ⟨⟨H0, H1⟩, Hair, Hs, Hout⟩ Hk
  iapply (run_row X Wt c T i offx inbx offo inbo hx ho Q) $$ [H0 H1 Hout]
  · isplitl [H0]; · iexact H0
    isplitl [H1] <;> iassumption
  iintro ⟨H0, H1, Hout⟩
  iapply Hk
  isplitl [H0 H1]; · isplitl [H0] <;> iassumption
  isplitl [Hair]; · iexact Hair
  isplitl [Hs] <;> iassumption

/-- A step of the first hop: a tile of the device's own row is stored for sending and sent. -/
theorem first_early {k : ℕ} (hk : k < 4) (T : Grid F) (hT : T c (col k) = prodTile X Wt c c (col k))
    (off : Fin 2 → ℕ) (inb : ∀ a, off a + S512x512.size a ≤ S2048x2048.size a) (ho : off = ![512 * c.val, 512 * (col k).val])
    (n : Dev nD) (hn : n = dest k c) (Q : PUnit → sProp 𝕄) :
    iprop(records X Wt K ∗ early X Wt c k T) ⊢ iprop((early X Wt c (k + 1) T -∗ Q ⟨⟩) -∗ runs c (firstStep (F := F) k off inb n) Q) := by
  unfold early
  iintro ⟨HR, Ho, Hair, Hs, Hout⟩ Hk
  iapply (run_first X Wt K c hk T hT off inb ho n hn Q) $$ [HR Hair Hs Hout]
  · isplitl [HR]; · iexact HR
    isplitl [Hair]; · iexact Hair
    isplitl [Hs] <;> iassumption
  iintro ⟨Hair, Hs, Hout⟩
  iapply Hk
  isplitl [Ho]; · iexact Ho
  isplitl [Hair]; · iexact Hair
  isplitl [Hs] <;> iassumption

/-- A program that takes the state before step `a` to the state before step `b`. -/
def takes (p : ℙ) (a b : ℕ) : Prop :=
  ∀ Q : PUnit → sProp 𝕄, iprop(records X Wt K ∗ levAts L lv ∗ before X Wt a c) ⊢ iprop((before X Wt b c -∗ Q ⟨⟩) -∗ runs c p Q)

/-- Two pieces of the body run one after the other. -/
theorem takes_seq {p q : ℙ} {a b d : ℕ} (h : takes X Wt K c p a b) (h' : takes X Wt K c q b d) : takes X Wt K c (p >>= fun _ => q) a d := by
  intro Q
  iintro ⟨#HR, #Hlev, H⟩ Hk
  iapply (runs_bind c)
  iapply (h _) $$ [H]
  · isplitr; · iexact HR
    isplitr; · iexact Hlev
    iexact H
  iintro H
  iapply (h' Q) $$ [H]
  · isplitr; · iexact HR
    isplitr; · iexact Hlev
    iexact H
  iexact Hk

/-- Four steps in a row. -/
theorem takes_four {p₀ p₁ p₂ p₃ : ℙ} {n : ℕ} (h₀ : takes X Wt K c p₀ n (n + 1)) (h₁ : takes X Wt K c p₁ (n + 1) (n + 2))
    (h₂ : takes X Wt K c p₂ (n + 2) (n + 3)) (h₃ : takes X Wt K c p₃ (n + 3) (n + 4)) : takes X Wt K c (four p₀ p₁ p₂ p₃) n (n + 4) :=
  takes_seq X Wt K c h₀ (takes_seq X Wt K c h₁ (takes_seq X Wt K c h₂ h₃))

/-! ### Where the steps read and write, and whom they send to -/

section Places

/-- Offsets named by equal coordinates are equal. -/
theorem place {o : Fin 2 → ℕ} {a b a' b' : ℕ} (h : o = ![a, b]) (e : a = a') (e' : b = b') : o = ![a', b'] := by rw [h, e, e']
/-- A device named by its number. -/
theorem devNo {v : ℕ} {hv : v < nD} {w : ℕ} {d : Dev nD} (h : v = w) (e : w = d.val) : (⟨v, hv⟩ : Dev nD) = d := Fin.ext (h.trans e)

end Places

/-- The four kinds of step: add what landed and send the sum on, -/
theorem takes_add {k : ℕ} (hk : k < 8) {off : Fin 2 → ℕ} {inb : ∀ a, off a + S512x512.size a ≤ S2048x2048.size a}
    (ho : off = ![512 * (row k c).val, 512 * (col k).val]) {n : Dev nD} (hn : n = dest (k + 4) c) :
    takes X Wt K c (addStep k off inb n) k (k + 1) := fun Q => run_add X Wt K c hk off inb ho n hn Q
/-- complete the sum, apply the activation, keep the tile and send it on, -/
theorem takes_act {k : ℕ} (hk : 8 ≤ k) (hk' : k < 12) {off : Fin 2 → ℕ} {inb : ∀ a, off a + S512x512.size a ≤ S2048x2048.size a}
    (ho : off = ![512 * (row k c).val, 512 * (col k).val]) {n : Dev nD} (hn : n = dest (k + 4) c) :
    takes X Wt K c (actStep k off inb n) k (k + 1) := fun Q => run_act X Wt K c hk hk' off inb ho n hn Q
/-- send on what landed and keep it, -/
theorem takes_pass {k : ℕ} (hk : 12 ≤ k) (hk' : k < 20) {off : Fin 2 → ℕ} {inb : ∀ a, off a + S512x512.size a ≤ S2048x2048.size a}
    (ho : off = ![512 * (row k c).val, 512 * (col k).val]) {n : Dev nD} (hn : n = dest (k + 4) c) :
    takes X Wt K c (passStep k off inb n) k (k + 1) := fun Q => run_pass X Wt K c hk hk' off inb ho n hn Q
/-- keep the last that lands. -/
theorem takes_end {k : ℕ} (hk : 20 ≤ k) (hk' : k < 24) {off : Fin 2 → ℕ} {inb : ∀ a, off a + S512x512.size a ≤ S2048x2048.size a}
    (ho : off = ![512 * (row k c).val, 512 * (col k).val]) : takes X Wt K c (endStep k off inb) k (k + 1) :=
  fun Q => run_end X Wt K c hk hk' off inb ho Q

/-- All 24 steps. -/
theorem steps : takes X Wt K c (do
  four (addStep 0 (k0_off11 c 0#32) (k0_off11_inb c 0) ⟨k0_dev7 c, k0_dev7_lt c⟩) (addStep 1 (k0_off12 c 0#32) (k0_off12_inb c 0) ⟨k0_dev8 c, k0_dev8_lt c⟩)
    (addStep 2 (k0_off13 c 0#32) (k0_off13_inb c 0) ⟨k0_dev9 c, k0_dev9_lt c⟩) (addStep 3 (k0_off14 c 0#32) (k0_off14_inb c 0) ⟨k0_dev10 c, k0_dev10_lt c⟩)
  four (addStep 4 (k0_off11 c 1#32) (k0_off11_inb c 1) ⟨k0_dev11 c, k0_dev11_lt c⟩) (addStep 5 (k0_off12 c 1#32) (k0_off12_inb c 1) ⟨k0_dev12 c, k0_dev12_lt c⟩)
    (addStep 6 (k0_off13 c 1#32) (k0_off13_inb c 1) ⟨k0_dev13 c, k0_dev13_lt c⟩) (addStep 7 (k0_off14 c 1#32) (k0_off14_inb c 1) ⟨k0_dev14 c, k0_dev14_lt c⟩)
  four (actStep 8 (k0_off11 c 2#32) (k0_off11_inb c 2) ⟨k0_dev15 c, k0_dev15_lt c⟩) (actStep 9 (k0_off12 c 2#32) (k0_off12_inb c 2) ⟨k0_dev16 c, k0_dev16_lt c⟩)
    (actStep 10 (k0_off13 c 2#32) (k0_off13_inb c 2) ⟨k0_dev17 c, k0_dev17_lt c⟩) (actStep 11 (k0_off14 c 2#32) (k0_off14_inb c 2) ⟨k0_dev18 c, k0_dev18_lt c⟩)
  four (passStep 12 (k0_off15 c 0#32) (k0_off15_inb c 0) ⟨k0_dev19 c, k0_dev19_lt c⟩) (passStep 13 (k0_off16 c 0#32) (k0_off16_inb c 0) ⟨k0_dev20 c, k0_dev20_lt c⟩)
    (passStep 14 (k0_off17 c 0#32) (k0_off17_inb c 0) ⟨k0_dev21 c, k0_dev21_lt c⟩) (passStep 15 (k0_off18 c 0#32) (k0_off18_inb c 0) ⟨k0_dev22 c, k0_dev22_lt c⟩)
  four (passStep 16 (k0_off15 c 1#32) (k0_off15_inb c 1) ⟨k0_dev23 c, k0_dev23_lt c⟩) (passStep 17 (k0_off16 c 1#32) (k0_off16_inb c 1) ⟨k0_dev24 c, k0_dev24_lt c⟩)
    (passStep 18 (k0_off17 c 1#32) (k0_off17_inb c 1) ⟨k0_dev25 c, k0_dev25_lt c⟩) (passStep 19 (k0_off18 c 1#32) (k0_off18_inb c 1) ⟨k0_dev26 c, k0_dev26_lt c⟩)
  four (endStep 20 (k0_off15 c 2#32) (k0_off15_inb c 2)) (endStep 21 (k0_off16 c 2#32) (k0_off16_inb c 2))
    (endStep 22 (k0_off17 c 2#32) (k0_off17_inb c 2)) (endStep 23 (k0_off18 c 2#32) (k0_off18_inb c 2))) 0 24 := by
  refine takes_seq X Wt K c (b := 4) (takes_four X Wt K c ?_ ?_ ?_ ?_) (takes_seq X Wt K c (b := 8) (takes_four X Wt K c ?_ ?_ ?_ ?_)
    (takes_seq X Wt K c (b := 12) (takes_four X Wt K c ?_ ?_ ?_ ?_) (takes_seq X Wt K c (b := 16) (takes_four X Wt K c ?_ ?_ ?_ ?_)
    (takes_seq X Wt K c (b := 20) (takes_four X Wt K c ?_ ?_ ?_ ?_) (takes_four X Wt K c ?_ ?_ ?_ ?_)))))
  · exact takes_add X Wt K c (by decide) (place (k0_off11_eq c 0) (by revert c; decide) (by decide)) (devNo (k0_dev7_eq c) (by revert c; decide))
  · exact takes_add X Wt K c (by decide) (place (k0_off12_eq c 0) (by revert c; decide) (by decide)) (devNo (k0_dev8_eq c) (by revert c; decide))
  · exact takes_add X Wt K c (by decide) (place (k0_off13_eq c 0) (by revert c; decide) (by decide)) (devNo (k0_dev9_eq c) (by revert c; decide))
  · exact takes_add X Wt K c (by decide) (place (k0_off14_eq c 0) (by revert c; decide) (by decide)) (devNo (k0_dev10_eq c) (by revert c; decide))
  · exact takes_add X Wt K c (by decide) (place (k0_off11_eq c 1) (by revert c; decide) (by decide)) (devNo (k0_dev11_eq c) (by revert c; decide))
  · exact takes_add X Wt K c (by decide) (place (k0_off12_eq c 1) (by revert c; decide) (by decide)) (devNo (k0_dev12_eq c) (by revert c; decide))
  · exact takes_add X Wt K c (by decide) (place (k0_off13_eq c 1) (by revert c; decide) (by decide)) (devNo (k0_dev13_eq c) (by revert c; decide))
  · exact takes_add X Wt K c (by decide) (place (k0_off14_eq c 1) (by revert c; decide) (by decide)) (devNo (k0_dev14_eq c) (by revert c; decide))
  · exact takes_act X Wt K c (by decide) (by decide) (place (k0_off11_eq c 2) (by revert c; decide) (by decide)) (devNo (k0_dev15_eq c) (by revert c; decide))
  · exact takes_act X Wt K c (by decide) (by decide) (place (k0_off12_eq c 2) (by revert c; decide) (by decide)) (devNo (k0_dev16_eq c) (by revert c; decide))
  · exact takes_act X Wt K c (by decide) (by decide) (place (k0_off13_eq c 2) (by revert c; decide) (by decide)) (devNo (k0_dev17_eq c) (by revert c; decide))
  · exact takes_act X Wt K c (by decide) (by decide) (place (k0_off14_eq c 2) (by revert c; decide) (by decide)) (devNo (k0_dev18_eq c) (by revert c; decide))
  · exact takes_pass X Wt K c (by decide) (by decide) (place (k0_off15_eq c 0) (by revert c; decide) (by decide)) (devNo (k0_dev19_eq c) (by revert c; decide))
  · exact takes_pass X Wt K c (by decide) (by decide) (place (k0_off16_eq c 0) (by revert c; decide) (by decide)) (devNo (k0_dev20_eq c) (by revert c; decide))
  · exact takes_pass X Wt K c (by decide) (by decide) (place (k0_off17_eq c 0) (by revert c; decide) (by decide)) (devNo (k0_dev21_eq c) (by revert c; decide))
  · exact takes_pass X Wt K c (by decide) (by decide) (place (k0_off18_eq c 0) (by revert c; decide) (by decide)) (devNo (k0_dev22_eq c) (by revert c; decide))
  · exact takes_pass X Wt K c (by decide) (by decide) (place (k0_off15_eq c 1) (by revert c; decide) (by decide)) (devNo (k0_dev23_eq c) (by revert c; decide))
  · exact takes_pass X Wt K c (by decide) (by decide) (place (k0_off16_eq c 1) (by revert c; decide) (by decide)) (devNo (k0_dev24_eq c) (by revert c; decide))
  · exact takes_pass X Wt K c (by decide) (by decide) (place (k0_off17_eq c 1) (by revert c; decide) (by decide)) (devNo (k0_dev25_eq c) (by revert c; decide))
  · exact takes_pass X Wt K c (by decide) (by decide) (place (k0_off18_eq c 1) (by revert c; decide) (by decide)) (devNo (k0_dev26_eq c) (by revert c; decide))
  · exact takes_end X Wt K c (by decide) (by decide) (place (k0_off15_eq c 2) (by revert c; decide) (by decide))
  · exact takes_end X Wt K c (by decide) (by decide) (place (k0_off16_eq c 2) (by revert c; decide) (by decide))
  · exact takes_end X Wt K c (by decide) (by decide) (place (k0_off17_eq c 2) (by revert c; decide) (by decide))
  · exact takes_end X Wt K c (by decide) (by decide) (place (k0_off18_eq c 2) (by revert c; decide) (by decide))

/-! ## The body -/

/-- The four row blocks of the partial product fill the result buffer. -/
theorem rows_filled (T : Grid F) :
    setRow (setRow (setRow (setRow T c (prodTile X Wt c c)) (nxt c) (prodTile X Wt c (nxt c))) (prv c) (prodTile X Wt c (prv c)))
      (nxt (nxt c)) (prodTile X Wt c (nxt (nxt c))) = tilesAt X Wt 0 c := by
  funext i j
  show _ = prodTile X Wt c i j
  by_cases h2 : i = nxt (nxt c)
  · rw [setRow_same _ _ j h2, h2]
  rw [setRow_ne _ _ j h2]
  by_cases h3 : i = prv c
  · rw [setRow_same _ _ j h3, h3]
  rw [setRow_ne _ _ j h3]
  by_cases h1 : i = nxt c
  · rw [setRow_same _ _ j h1, h1]
  rw [setRow_ne _ _ j h1]
  have h0 : i = c := by
    have : ∀ c i : Fin 4, i ≠ nxt (nxt c) → i ≠ prv c → i ≠ nxt c → i = c := by decide
    exact this c i h2 h3 h1
  rw [setRow_same _ _ j h0, h0]

/-- With the peers' landing slots and the tokens, every copy is ready to be sent. -/
theorem to_send : iprop((bigSep (Finset.range 24) fun k => tileFree (dest k c) (landM k))
      ∗ bigSep (Finset.Ico 0 24) fun k => iprop(dutyTok ER (sendCell c k) 0 false ∗ dutyTok ER (recvCell (dest k c) k) 0 false))
    ⊢ bigSep (Finset.Ico 0 24) (toSend (F := F) c) := by
  rw [Finset.range_eq_Ico, ← bigSep_sep']
  exact Entails.of_eq (bigSep_congr fun k _ => rfl)

/-- What the body starts from besides the operands and its own buffers: the barrier's share and the transfers'. -/
def bodyGhost : sProp 𝕄 :=
  iprop((dutyTok ER (barCell (prv c)) 0 true ∗ dutyTok ER (barCell (nxt c)) 0 false ∗ cred (tallyAt (barCell c) () 2) ∗ atPos ER (barCell c) 0 ∅ 0)
    ∗ (bigSep (Finset.Ico 0 24) fun k => iprop(dutyTok ER (sendCell c k) 0 false ∗ dutyTok ER (recvCell (dest k c) k) 0 false))
    ∗ bigSep (Finset.Ico 0 24) (toWait (F := F) c))
/-- The scratch buffers. -/
def scratches : sProp 𝕄 :=
  iprop(someHeld c cc0_scratch0 ∗ someHeld c cc0_scratch1 ∗ someHeld c cc0_scratch2 ∗ someHeld c cc0_scratch3 ∗ someHeld c cc0_scratch4)

/-- The kernel's body on device `c`: from its blocks of `x` and `w` to the whole result, everything owed paid, every
    semaphore back at zero. -/
theorem run_body (Q : PUnit → sProp 𝕄) :
    iprop(records X Wt K ∗ levAts L lv ∗ bodyGhost c ∗ debt c (owedAll c) ∗ scratches c
        ∗ held c cc0_stg0_0 (X c) ∗ held c cc0_stg1_0 (Wt c) ∗ someHeld c cc0_stg2_0)
      ⊢ iprop(((debt c 0 ∗ scratches c ∗ semVal (barCell c) 0 ∗ bigSep (Finset.Ico 0 24) (waited c)
            ∗ held c cc0_stg0_0 (X c) ∗ held c cc0_stg1_0 (Wt c) ∗ held c cc0_stg2_0 (result X Wt c)) -∗ Q ⟨⟩)
          -∗ runs c (bodyProg (F := F)) Q) := by
  rw [bodyProg_eq]
  unfold bodyGhost scratches
  iintro ⟨#HR, #Hlev, ⟨⟨HtP, HtN, Hc, Hat⟩, Htoks, Hwait⟩, HO, ⟨H0, H1, H2, H3, H4⟩, Hx, Hw, ⟨%f, Hout⟩⟩ Hk
  iapply (runs_bind c)
  unfold runs
  rw [show (Prog.lift .deviceId : Prog (TpuEff nD τ sig (Elt F) Λ₀ Proc.tc) (Dev nD)) = .op .deviceId .ret from rfl, wp_deviceId, wp_ret]
  imodintro
  iapply (runs_bind c)
  iapply (run_open X Wt K c _) $$ [HtP HtN Hc Hat HO H0 H1 H3 H4 Hx Hw]
  · isplitr; · iexact HR
    isplitr; · iexact Hlev
    isplitl [HO HtP HtN Hc Hat]
    · isplitl [HO]; · iexact HO
      isplitl [HtP]; · iexact HtP
      isplitl [HtN]; · iexact HtN
      isplitl [Hc] <;> iassumption
    isplitl [H3]; · iexact H3
    isplitl [H4]; · iexact H4
    isplitl [Hx]; · iexact Hx
    isplitl [Hw]; · iexact Hw
    isplitl [H0] <;> iassumption
  iintro ⟨HO, Hz, Hland, Hx, Hw, H0, H1⟩
  ihave Hs := (cut_send c) $$ H2
  ihave Hsend := (to_send c) $$ [Hland Htoks]
  · isplitl [Hland] <;> iassumption
  -- the partial product and the first hop
  obtain ⟨T, rfl⟩ : ∃ T, asm T = f := ⟨_, asm_window f⟩
  ihave H := (show iprop(held c cc0_scratch0 (k0_pay2 (X c)) ∗ held c cc0_scratch1 (k0_pay3 (Wt c)) ∗ bigSep (Finset.Ico 0 24) (toSend c) ∗ debt c (owedFrom 0 c)
      ∗ bigSep (Finset.Ico 0 4) (fun j => tileFree c (sendM j)) ∗ held c cc0_stg2_0 (asm T)) ⊢ early X Wt c 0 T from by
    unfold early ops air
    rw [show Finset.Ico 0 (min 0 24) = ∅ from rfl, bigSep_empty]
    iintro ⟨H0, H1, Hsend, HO, Hs, Hout⟩
    isplitl [H0 H1]; · isplitl [H0] <;> iassumption
    isplitl [Hsend HO]
    · isplitl [Hsend]; · iexact Hsend
      isplitl [HO]; · iexact HO
      iempintro
    isplitl [Hs] <;> iassumption) $$ [H0 H1 Hsend HO Hs Hout]
  · isplitl [H0]; · iexact H0
    isplitl [H1]; · iexact H1
    isplitl [Hsend]; · iexact Hsend
    isplitl [HO]; · iexact HO
    isplitl [Hs] <;> iassumption
  iapply (runs_bind c)
  iapply (row_early X Wt c 0 T c _ _ _ _ (place (k0_off1_eq c) rfl rfl) (place (k0_off2_eq c) rfl rfl) _) $$ H
  iintro H
  iapply (runs_bind c)
  iapply (runs_bind c)
  iapply (first_early X Wt K c (by decide) _ (setRow_same _ _ _ rfl) _ _ (place (k0_off3_eq c) rfl (by decide)) _ (devNo (k0_dev3_eq c) (by revert c; decide)) _) $$ [H]
  · isplitr; · iexact HR
    iexact H
  iintro H
  iapply (runs_bind c)
  iapply (first_early X Wt K c (by decide) _ (setRow_same _ _ _ rfl) _ _ (place (k0_off4_eq c) rfl (by decide)) _ (devNo (k0_dev4_eq c) (by revert c; decide)) _) $$ [H]
  · isplitr; · iexact HR
    iexact H
  iintro H
  iapply (runs_bind c)
  iapply (first_early X Wt K c (by decide) _ (setRow_same _ _ _ rfl) _ _ (place (k0_off5_eq c) rfl (by decide)) _ (devNo (k0_dev5_eq c) (by revert c; decide)) _) $$ [H]
  · isplitr; · iexact HR
    iexact H
  iintro H
  iapply (first_early X Wt K c (by decide) _ (setRow_same _ _ _ rfl) _ _ (place (k0_off6_eq c) rfl (by decide)) _ (devNo (k0_dev6_eq c) (by revert c; decide)) _) $$ [H]
  · isplitr; · iexact HR
    iexact H
  iintro H
  iapply (runs_bind c)
  iapply (row_early X Wt c 4 _ (nxt c) _ _ _ _ (place (k0_off7_eq c 0) rfl rfl) (place (k0_off8_eq c 0) rfl rfl) _) $$ H
  iintro H
  iapply (runs_bind c)
  iapply (row_early X Wt c 4 _ (prv c) _ _ _ _ (place (k0_off9_eq c) rfl rfl) (place (k0_off10_eq c) rfl rfl) _) $$ H
  iintro H
  iapply (runs_bind c)
  iapply (row_early X Wt c 4 _ (nxt (nxt c)) _ _ _ _ (place (k0_off7_eq c 1) (by revert c; decide) rfl) (place (k0_off8_eq c 1) (by revert c; decide) rfl) _) $$ H
  iintro H
  ihave H := (Entails.of_eq (congrArg (early X Wt c 4) (rows_filled X Wt c T))) $$ H
  unfold early ops
  icases H with ⟨⟨H0, H1⟩, Hair, -, Hout⟩
  -- the steps
  iapply (steps X Wt K c _) $$ [Hair Hwait Hout]
  · isplitr; · iexact HR
    isplitr; · iexact Hlev
    unfold before pending
    rw [show Finset.Ico (max 12 (0 - 4)) (min 0 20) = ∅ from rfl, Finset.Ico_self, bigSep_empty, bigSep_empty, bigSep_empty]
    isplitl [Hair]; · iexact Hair
    isplitl [Hwait]
    · isplitl [Hwait]; · iexact Hwait
      iempintro
    isplitr; · iempintro
    isplitr; · iempintro
    iexact Hout
  unfold before pending air
  rw [owedFrom_none (by decide : 24 ≤ 24 + 4)]
  iintro ⟨⟨-, HO, -⟩, ⟨-, Hdone⟩, -, Hback, Hout⟩
  ihave Hb := (scratch_back c) $$ Hback
  icases Hb with ⟨H2, H3, H4⟩
  iapply Hk
  isplitl [HO]; · iexact HO
  isplitl [H0 H1 H2 H3 H4]
  · isplitl [H0]; · iexists _; iexact H0
    isplitl [H1]; · iexists _; iexact H1
    isplitl [H2]; · iexact H2
    isplitl [H3] <;> iassumption
  isplitl [Hz]; · iexact Hz
  isplitl [Hdone]; · iexact Hdone
  isplitl [Hx]; · iexact Hx
  isplitl [Hw]; · iexact Hw
  iexact Hout

end Cert.KernelIdeal.Gen

end
-- ==== Proof.Launch.lean ====
/-
  The launch's ghost state: every cell's invariant is allocated for all devices at once, each device is handed the
  positions of its own cells and the tokens of the duties it pays, and the credit the launch gives each cell is what
  the other devices owe it.
-/
module

public import proofs.«01_k».proof.Proof.Body

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (Wt : Dev nD → Vec F S512x2048 .bf16)

/-! ## The cells -/

/-- The copies' semaphores are the kernel's own, all of them. -/
theorem ownSemFacts : Pipeline.OwnSemFacts cfg0.spec osem := by decide

/-- The role of each of them. -/
theorem role_osem (i : Fin 24 × Bool) : roleOf (osem i) = if i.2 then .rcv i.1.val else .snd i.1.val := by
  obtain ⟨k, b⟩ := i
  cases b
  · exact roleOf_send k.val k.isLt
  · exact roleOf_recv k.val k.isLt

/-- No two of them are one. -/
theorem osem_injective : Function.Injective osem := by
  rintro ⟨k, b⟩ ⟨k', b'⟩ h
  have e := congrArg roleOf h
  rw [role_osem, role_osem] at e
  cases b <;> cases b' <;> simp only [Bool.false_eq_true, if_true, if_false, reduceCtorEq, Role.snd.injEq, Role.rcv.injEq] at e
  · rw [Fin.ext e]
  · rw [Fin.ext e]

/-- Nor are any two with the barrier among them, -/
theorem csem_injective : Function.Injective csem := by
  intro i j h
  cases i with
  | none =>
    cases j with
    | none => rfl
    | some j => exact absurd h (by intro h; cases h)
  | some i =>
    cases j with
    | none => exact absurd h (by intro h; cases h)
    | some j => exact congrArg some (osem_injective h)

/-- on any devices. -/
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- All cells of the protocol. -/
def ringCells : Finset (GSem nD τ sig) := Finset.univ.map ⟨kcell, kcell_injective⟩

/-- The duties of a device's cells: two of its barrier cell, one of every other cell. -/
def tokOf (cj : Dev nD × (Bool ⊕ Fin 24 × Bool)) : GSem nD τ sig × ℕ × Bool :=
  match cj.2 with
  | .inl b => (barCell cj.1, 0, b)
  | .inr i => (kcell (cj.1, some i), 0, false)

/-- A token names its cell and duty. -/
theorem tokOf_injective : Function.Injective tokOf := by
  rintro ⟨c, j⟩ ⟨c', j'⟩ h
  have key : ∀ (i i' : CellIx) (b b' : Bool), ((kcell (c, i), 0, b) : GSem nD τ sig × ℕ × Bool) = (kcell (c', i'), 0, b') → c = c' ∧ i = i' ∧ b = b' := by
    intro i i' b b' h
    have hk := kcell_injective (congrArg Prod.fst h)
    exact ⟨congrArg Prod.fst hk, congrArg Prod.snd hk, congrArg (fun x => x.2.2) h⟩
  cases j with
  | inl b =>
    cases j' with
    | inl b' => obtain ⟨h1, -, h3⟩ := key none none b b' h; rw [h1, h3]
    | inr i' => obtain ⟨-, h2, -⟩ := key none (some i') b false h; cases h2
  | inr i =>
    cases j' with
    | inl b' => obtain ⟨-, h2, -⟩ := key (some i) none false b' h; cases h2
    | inr i' => obtain ⟨h1, h2, -⟩ := key (some i) (some i') false false h; cases h2; rw [h1]

/-- All tokens of the protocol. -/
def ringToks : Finset (GSem nD τ sig × ℕ × Bool) := Finset.univ.map ⟨tokOf, tokOf_injective⟩

/-- The ghost state a launch starts from. -/
def u₀ : UU :=
  (initOf (Pipeline.cells cfgs cellOf_inj) (Pipeline.launchToks cfgs cellOf_inj), initOf ringCells ringToks)

/-! ## Indices by transfer -/

omit [FloatOps F] in
/-- Over a device's send and receive cells, gathered by transfer. -/
theorem by_transfer (Φ : Fin 24 × Bool → sProp 𝕄) (Ψ : ℕ → sProp 𝕄) (h : ∀ k : Fin 24, iprop(Φ (k, false) ∗ Φ (k, true)) = Ψ k.val) :
    bigSep Finset.univ Φ = bigSep (Finset.Ico 0 24) Ψ := by
  rw [bigSep_univ_prod, ← Finset.range_eq_Ico, ← Nat.Iio_eq_range, ← Fin.map_valEmbedding_univ, bigSep_map]
  refine bigSep_congr fun k _ => ?_
  rw [bigSep_univ_eq_bigSepL [false, true] (by decide) (by decide), bigSepL_cons_cons, bigSepL_singleton]
  exact h k

omit [FloatOps F] in
/-- Over all of a device's cells: the barrier cell, and the others. -/
theorem bar_and_rest (Φ : CellIx → sProp 𝕄) : bigSep Finset.univ Φ = iprop(Φ none ∗ bigSep Finset.univ fun i => Φ (some i)) := by
  have e : (Finset.univ : Finset CellIx) = insert none (Finset.univ.map Function.Embedding.some) := by
    ext i
    cases i <;> simp
  rw [e, bigSep_insert (by simp), bigSep_map]
  rfl

/-! ## What is dealt -/

/-- The duty tokens of device `c`'s own cells. -/
def toks (c : Dev nD) : sProp 𝕄 :=
  iprop((dutyTok ER (barCell c) 0 true ∗ dutyTok ER (barCell c) 0 false) ∗ bigSep Finset.univ fun i : Fin 24 × Bool => dutyTok ER (kcell (c, some i)) 0 false)

/-- Whose cell device `c` pays: of a transfer its own send cell and the neighbour's receive cell. -/
def payee : Dev nD × (Fin 24 × Bool) ≃ Dev nD × (Fin 24 × Bool) where
  toFun x := (if x.2.2 then dest x.2.1.val x.1 else x.1, x.2)
  invFun x := (if x.2.2 then frm x.2.1.val x.1 else x.1, x.2)
  left_inv := by
    rintro ⟨c, k, b⟩
    cases b
    · rfl
    · exact Prod.ext (frm_dest k.val c) rfl
  right_inv := by
    rintro ⟨c, k, b⟩
    cases b
    · rfl
    · exact Prod.ext (dest_frm k.val c) rfl

/-- The devices, each renamed to its right neighbour. -/
def turn : Dev nD ≃ Dev nD := ⟨nxt, prv, prv_nxt, nxt_prv⟩

/-- The tokens of the duties device `c` pays. -/
def payToks (c : Dev nD) : sProp 𝕄 :=
  iprop((dutyTok ER (barCell (prv c)) 0 true ∗ dutyTok ER (barCell (nxt c)) 0 false)
    ∗ bigSep Finset.univ fun i : Fin 24 × Bool => dutyTok ER (kcell ((payee (c, i)).1, some i)) 0 false)

/-- A device's positions: at the start of each of its cells. -/
def places (c : Dev nD) : sProp 𝕄 := bigSep Finset.univ fun i : CellIx => atPos ER (kcell (c, i)) 0 ∅ 0

/-- What the launch's element deals device `c`. -/
def G (c : Dev nD) : sProp 𝕄 :=
  iprop((bigSep Finset.univ fun i : CellIx => roundState ER (ringRd X Wt) (kcell (c, i)) 0)
    ∗ (bigSep Finset.univ fun i : CellIx => iprop(atPos ER (kcell (c, i)) 0 ∅ 0 ∗ reached ER (kcell (c, i)) 0)) ∗ toks c)

/-- What the global step makes of it: all cells' records, and device `c`'s own share. -/
def G' (c : Dev nD) : sProp 𝕄 := iprop(∃ K, records X Wt K ∗ places c ∗ payToks c)

/-- The ghost state funds every device's share of the protocol. -/
theorem fund_ring : BI.own (ER (initOf ringCells ringToks)) ⊢ (|==> bigSep Finset.univ (G X Wt) : sProp 𝕄) := by
  have hX (Φ : GSem nD τ sig → sProp 𝕄) : bigSep ringCells Φ = bigSep Finset.univ fun c : Dev nD => bigSep Finset.univ fun i : CellIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_eq_bigSepL [true, false] (by decide) (by decide), bigSepL_cons_cons, bigSepL_singleton]
    rfl
  iintro HX
  imod (Rounds.fund ER (ringRd X Wt) ringCells ringToks) $$ HX with ⟨Hst, Hr, Hat, Htok⟩
  imodintro
  ihave Hst' := (Entails.of_eq (hX fun g => roundState ER (ringRd X Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's own semaphores at zero, one by one. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell (c, i)) 0 : sProp 𝕄) := by
  rw [unscopedSems0_eq, bar_and_rest]
  unfold Pipeline.ownSems0
  iintro ⟨HS, HB⟩
  isplitl [HB]; · iexact HB
  iexact HS

/-- A device's cells are opened. -/
theorem core_alloc (c : Dev nD) :
    iprop(Pipeline.ownSems0 (Ix := Unit) (Name := ℕ) (U := UU) (Lvl := ℕ) (Val := Elt F) (τ := τ) osem c ∗ unscopedSems0 c ∗ G X Wt c)
      ⊢ |={Set.univ}=> iprop((bigSep Finset.univ fun i => iprop(∃ κ : ℕ, cellInv ER (ringRd X Wt) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CellIx => semVal (kcell (c, i)) 0) ∗ bigSep Finset.univ fun i : CellIx => roundState ER (ringRd X Wt) (kcell (c, i)) 0)
      ⊢ (|={Set.univ}=> bigSep Finset.univ fun i => iprop(∃ κ : ℕ, cellInv ER (ringRd X Wt) κ (kcell (c, i))) : sProp 𝕄) from by
        rw [← bigSep_sep']
        exact (bigSep_mono fun i _ => (Rounds.body_intro ER (ringRd X Wt) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens, from the devices whose cells they are of to the devices that pay them. -/
theorem toks_around : (bigSep Finset.univ fun c : Dev nD => (toks c : sProp 𝕄)) = bigSep Finset.univ fun c : Dev nD => payToks c := by
  have e1 : (bigSep Finset.univ fun c : Dev nD => (dutyTok ER (barCell c) 0 true : sProp 𝕄)) = bigSep Finset.univ fun c : Dev nD => dutyTok ER (barCell (prv c)) 0 true :=
    bigSep_univ_equiv turn.symm _
  have e2 : (bigSep Finset.univ fun c : Dev nD => (dutyTok ER (barCell c) 0 false : sProp 𝕄)) = bigSep Finset.univ fun c : Dev nD => dutyTok ER (barCell (nxt c)) 0 false :=
    bigSep_univ_equiv turn _
  have e3 : (bigSep Finset.univ fun c : Dev nD => bigSep Finset.univ fun i : Fin 24 × Bool => (dutyTok ER (kcell (c, some i)) 0 false : sProp 𝕄))
      = bigSep Finset.univ fun c : Dev nD => bigSep Finset.univ fun i : Fin 24 × Bool => dutyTok ER (kcell ((payee (c, i)).1, some i)) 0 false := by
    rw [← bigSep_univ_prod (fun x : Dev nD × (Fin 24 × Bool) => (dutyTok ER (kcell (x.1, some x.2)) 0 false : sProp 𝕄)),
      ← bigSep_univ_prod (fun x : Dev nD × (Fin 24 × Bool) => (dutyTok ER (kcell ((payee x).1, some x.2)) 0 false : sProp 𝕄)),
      bigSep_univ_equiv payee]
    rfl
  unfold toks payToks
  rw [bigSep_sep', bigSep_sep', bigSep_sep', bigSep_sep', e1, e2, e3]

/-- The tokens are dealt to the devices that pay with them. -/
theorem regroup :
    (bigSep Finset.univ fun c : Dev nD => iprop((bigSep Finset.univ fun i => iprop(∃ κ : ℕ, cellInv ER (ringRd X Wt) κ (kcell (c, i))))
          ∗ (bigSep Finset.univ fun i => iprop(atPos ER (kcell (c, i)) 0 ∅ 0 ∗ reached ER (kcell (c, i)) 0)) ∗ toks c) : sProp 𝕄)
      ⊢ bigSep Finset.univ (G' X Wt) := by
  rw [bigSep_sep', bigSep_sep', toks_around, ← bigSep_univ_prod (fun ck : Dev nD × CellIx => iprop(∃ κ : ℕ, cellInv ER (ringRd X Wt) κ (kcell ck))),
    bigSep_congr (s := Finset.univ) (fun (c : Dev nD) _ => bigSep_sep' Finset.univ (fun i : CellIx => (atPos ER (kcell (c, i)) 0 ∅ 0 : sProp 𝕄)) (fun i => reached ER (kcell (c, i)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd X Wt) κ (kcell ck) : sProp 𝕄))) $$ HI
  icases HK with ⟨%K, #HI⟩
  have deal : iprop(records X Wt K ∗ bigSep Finset.univ fun c : Dev nD => iprop(places c ∗ payToks c)) ⊢ bigSep Finset.univ (G' X Wt) := by
    refine (sep_mono_left (BI.bigSep_of_persistent (Finset.univ : Finset (Dev nD)) (records X Wt K))).trans ?_
    rw [← bigSep_sep']
    exact bigSep_mono fun c _ => show iprop(records X Wt K ∗ places c ∗ payToks c) ⊢ G' X Wt c from by
      unfold G'; iintro H; iexists K; iexact H
  iapply deal
  isplitr
  · unfold records; isplitl; · iexact HI
    iexact HR
  · rw [bigSep_sep']
    isplitl [Hat]; · unfold places; iexact Hat
    iexact Htok

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans (BI.fupd_mono (regroup X Wt))

/-! ## The launch credit -/

/-- Barrier cells of two devices differ, -/
theorem bar_inj {a b : Dev nD} (h : barCell a = barCell b) : a = b := congrArg (fun g : GSem nD τ sig => g.1.1) h
/-- and so do landing cells, -/
theorem recv_inj {a b : Dev nD} {k j : ℕ} (hk : k < 24) (hj : j < 24) (h : recvCell a k = recvCell b j) : a = b ∧ k = j := by
  refine ⟨congrArg (fun g : GSem nD τ sig => g.1.1) h, ?_⟩
  have e := congrArg (fun g : GSem nD τ sig => roleOf g.2) h
  dsimp only at e
  rw [roleOf_recv k hk, roleOf_recv j hj] at e
  exact Role.rcv.inj e
/-- and neither is the other. -/
theorem recv_ne_bar {a b : Dev nD} {k : ℕ} : recvCell a k ≠ barCell b := fun h => by cases congrArg Prod.snd h

/-- Device `d` owes a tile of transfer `k` to the device it sends it to; -/
theorem owedFrom_recv (d c : Dev nD) {k : ℕ} (hk : k < 24) : owedFrom 0 d (recvCell c k) () = if d = frm k c then N else 0 := by
  unfold owedFrom
  rw [Finset.sum_apply, Finsupp.finset_sum_apply, Finset.sum_eq_single k]
  · rw [tallyAt_apply]
    by_cases h : d = frm k c
    · rw [if_pos h, if_pos ⟨by rw [h, dest_frm], rfl⟩]
    · rw [if_neg h, if_neg fun ⟨e, _⟩ => h (by rw [(recv_inj hk hk e).1, frm_dest])]
  · intro j hj hne
    rw [tallyAt_apply]
    exact if_neg fun ⟨e, _⟩ => hne (recv_inj hk (Finset.mem_Ico.mp hj).2 e).2.symm
  · intro h; exact absurd (Finset.mem_Ico.mpr ⟨Nat.zero_le k, hk⟩) h
/-- and nothing to a barrier cell, by its tiles. -/
theorem owedFrom_bar (d c : Dev nD) : owedFrom 0 d (barCell c) () = 0 := by
  unfold owedFrom
  rw [Finset.sum_apply, Finsupp.finset_sum_apply]
  refine Finset.sum_eq_zero fun j _ => ?_
  rw [tallyAt_apply]
  exact if_neg fun ⟨e, _⟩ => recv_ne_bar e.symm

/-- Device `d` owes a landing only where it is the sender, -/
theorem owed_recv (d c : Dev nD) {k : ℕ} (hk : k < 24) : owedAll d (recvCell c k) () = if d = frm k c then N else 0 := by
  unfold owedAll owedBar
  rw [Pi.add_apply, Finsupp.add_apply, Pi.add_apply, Finsupp.add_apply, owedFrom_recv d c hk, tallyAt_ne_cell recv_ne_bar, tallyAt_ne_cell recv_ne_bar]
  rfl

/-- and a barrier unit only to its neighbours. -/
theorem owed_bar (d c : Dev nD) : owedAll d (barCell c) () = (if d = prv c then 1 else 0) + (if d = nxt c then 1 else 0) := by
  unfold owedAll owedBar
  rw [Pi.add_apply, Finsupp.add_apply, Pi.add_apply, Finsupp.add_apply, owedFrom_bar, tallyAt_apply, tallyAt_apply, Nat.zero_add]
  congr 1
  · by_cases h : d = prv c
    · rw [if_pos h, if_pos ⟨by rw [h, nxt_prv], rfl⟩]
    · rw [if_neg h, if_neg fun ⟨e, _⟩ => h (by rw [bar_inj e, prv_nxt])]
  · by_cases h : d = nxt c
    · rw [if_pos h, if_pos ⟨by rw [h, prv_nxt], rfl⟩]
    · rw [if_neg h, if_neg fun ⟨e, _⟩ => h (by rw [bar_inj e, nxt_prv])]

/-- Together the devices owe each barrier two units, -/
theorem launch_bar (c : Dev nD) :
    tallyOn (barCell c) (launchCredit (Pipeline.owing owedAll) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- and each landing one copy. -/
theorem launch_recv (c : Dev nD) {k : ℕ} (hk : k < 24) :
    tallyOn (recvCell c k) (launchCredit (Pipeline.owing owedAll) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c hk, Finset.sum_ite_eq' Finset.univ (frm k c) fun _ => N,
    if_pos (Finset.mem_univ _)]

/-- The receive semaphores, as places among all semaphores. -/
def rcvAt : Fin 24 ↪ SemLoc sig := ⟨fun k => osem (k, true), fun _ _ h => congrArg Prod.fst (osem_injective h)⟩

omit [FloatOps F] in
/-- A device's credit at launch: two units of its barrier cell, a tile's of each receive cell. -/
theorem creds (c : Dev nD) :
    (Pipeline.launchCred owedAll c : sProp 𝕄) ⊢ iprop(cred (tallyAt (barCell c) () 2) ∗ bigSep (Finset.Ico 0 24) fun k => cred (tallyAt (recvCell c k) () N)) := by
  unfold Pipeline.launchCred
  rw [bigSep_univ_at _ (SemLoc.reg barS), launch_bar]
  refine sep_mono_right ?_
  have hsub : (Finset.univ.map rcvAt) ⊆ (Finset.univ.erase (SemLoc.reg barS : SemLoc sig)) := by
    intro x hx
    obtain ⟨k, -, rfl⟩ := Finset.mem_map.mp hx
    exact Finset.mem_erase.mpr ⟨fun h => (nomatch h), Finset.mem_univ _⟩
  have e : (bigSep (Finset.Ico 0 24) fun k => (cred (tallyAt (recvCell c k) () N) : sProp 𝕄))
      = bigSep (Finset.univ.map rcvAt) fun sm => cred (tallyOn ((c.tc : Thread nD τ), sm) (launchCredit (Pipeline.owing owedAll) 0 ((c.tc : Thread nD τ), sm))) := by
    rw [bigSep_map, ← Finset.range_eq_Ico, ← Nat.Iio_eq_range, ← Fin.map_valEmbedding_univ, bigSep_map]
    exact bigSep_congr fun k _ => (congrArg cred (launch_recv c k.isLt)).symm
  rw [e]
  exact bigSep_subset hsub

end Cert.KernelIdeal.Gen

end
-- ==== Proof.Run.lean ====
/-
  The run of the whole program: the body's obligation at the call's one point, and the launch that discharges it on
  every device. From any memory with every counter at zero the program ends with the arguments as they were, the
  result array at `result` of the devices' blocks, and every counter at zero again.
-/
module

public import proofs.«01_k».proof.Proof.Launch
public import proofs.«01_k».proof.Proof.Gen.KernelIdeal.Points
public import Idealize.ShloMosaic.Lib.Pipeline.CollectiveSegs
public import Idealize.ShloMosaic.Lib.Quiescent

@[expose] public section

noncomputable section

namespace Cert.KernelIdeal.Gen

open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The memory a run starts from. -/
def s₀ : MemSt nD τ sig (Elt F) := ⟨m, fun _ => 0, ρ⟩

/-- Device `c`'s block of `x`, and of `w`, as fetched. -/
def xAt (c : Dev nD) : Vec F S2048x512 .bf16 :=
  (win0_0.blk (0 : Fin 1)).view.read (Elt F) ((s₀ m ρ).mem ((c : Thread nD τ).loc main_arg0))
def wAt (c : Dev nD) : Vec F S512x2048 .bf16 :=
  (win0_1.blk (0 : Fin 1)).view.read (Elt F) ((s₀ m ρ).mem ((c : Thread nD τ).loc main_arg1))

/-- What device `c` starts its body from besides its buffers. -/
def start (c : Dev nD) : sProp 𝕄 :=
  iprop(G' (xAt m ρ) (wAt m ρ) c ∗ (cred (tallyAt (barCell c) () 2) ∗ bigSep (Finset.Ico 0 24) fun k => cred (tallyAt (recvCell c k) () N)) ∗ levAts L lv)

/-- The state before the body, -/
def Φ₀ (c : Dev nD) : sProp 𝕄 := iprop(start m ρ c ∗ scratches c)
/-- and after it. -/
def Φ₁ (c : Dev nD) : sProp 𝕄 := iprop(scratches c ∗ semVal (barCell c) 0 ∗ bigSep (Finset.Ico 0 24) (waited c))

/-- The pipeline's data: what each array holds and what the body leaves in each buffer. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wAt m ρ c
    | ⟨2, _⟩ => result (xAt m ρ) (wAt m ρ) c
  Φ t := match t with
    | ⟨0, _⟩ => Φ₀ m ρ c
    | ⟨_ + 1, _⟩ => Φ₁ c
  q _ := fullShare
  owed t := match t with
    | ⟨0, _⟩ => owedAll c
    | ⟨_ + 1, _⟩ => 0

omit [FloatOps F] in
/-- The three windows one by one. -/
theorem over_windows (Φ : Fin cfg0.W → sProp 𝕄) : bigSep Finset.univ Φ = iprop(Φ (0 : Fin 3) ∗ Φ (1 : Fin 3) ∗ Φ (2 : Fin 3)) := bigSep_W0 Φ

omit [FloatOps F] in
/-- Owning a buffer is holding its contents. -/
theorem owns_held (c : Dev nD) (b : Ref sig .tc) (v : b.ty.Contents (Elt F)) :
    (owns (Ix := Unit) (Name := ℕ) (U := UU) (Lvl := ℕ) (c : Thread nD τ) (Memref.whole b) fullShare v : sProp 𝕄) = held c b v := by
  have e : (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ held c b f) := by
    unfold owns
    simp only [Memref.view_whole, View.read_whole, View.set_whole]
  have h1 : iprop(∃ f : Buf (Elt F) ((c : Thread nD τ).loc b), ⌜f = v⌝ ∗ held c b f) ⊢ (held c b v : sProp 𝕄) := by
    iintro ⟨%f, %h, H⟩
    rw [← h]; iexact H
  have h2 : (held c b v : sProp 𝕄) ⊢ iprop(∃ f : Buf (Elt F) ((c : Thread nD τ).loc b), ⌜f = v⌝ ∗ held c b f) := by
    iintro H
    iexists v
    isplitr; · ipureintro; rfl
    iexact H
  exact e.trans (Entails.antisymm h1 h2)

/-! ## The body's obligation -/

/-- A device's positions, tokens and credit, as its body takes them. -/
theorem to_ghost (c : Dev nD) :
    iprop((places c ∗ payToks c) ∗ cred (tallyAt (barCell c) () 2) ∗ bigSep (Finset.Ico 0 24) fun k => cred (tallyAt (recvCell c k) () N))
      ⊢ (bodyGhost c : sProp 𝕄) := by
  unfold places payToks bodyGhost
  rw [bar_and_rest,
    by_transfer (fun i => (atPos ER (kcell (c, some i)) 0 ∅ 0 : sProp 𝕄)) (fun k => iprop(atPos ER (sendCell c k) 0 ∅ 0 ∗ atPos ER (recvCell c k) 0 ∅ 0)) fun _ => rfl,
    by_transfer (fun i => (dutyTok ER (kcell ((payee (c, i)).1, some i)) 0 false : sProp 𝕄))
      (fun k => iprop(dutyTok ER (sendCell c k) 0 false ∗ dutyTok ER (recvCell (dest k c) k) 0 false)) fun _ => rfl,
    show toWait (F := F) c = (fun k => iprop(atPos ER (sendCell c k) 0 ∅ 0 ∗ atPos ER (recvCell c k) 0 ∅ 0 ∗ cred (tallyAt (recvCell c k) () N))) from rfl]
  simp only [bigSep_sep']
  iintro ⟨⟨⟨HaB, HaS, HaR⟩, ⟨HtP, HtN⟩, HtS, HtR⟩, HcB, HcR⟩
  isplitl [HaB HtP HtN HcB]
  · isplitl [HtP]; · iexact HtP
    isplitl [HtN]; · iexact HtN
    isplitl [HcB]; · iexact HcB
    iexact HaB
  isplitl [HtS HtR]
  · isplitl [HtS]; · iexact HtS
    iexact HtR
  isplitl [HaS]; · iexact HaS
  isplitl [HaR]; · iexact HaR
  iexact HcR

set_option maxRecDepth 20000 in
/-- The body takes the state before it to the state after it. -/
theorem body_obligation (c : Dev nD) : BodyObligation (dats (F := F) m ρ 0 c) (defs₀ (F := F)) 𝒱₀ () Set.univ := fun t => by
  rw [fin_N0 t]
  rw [over_windows, over_windows]
  have hx : ∀ d, (dats (F := F) m ρ 0 c).before (0 : Fin 3) t0_0 d = xAt m ρ c := fun d => by
    unfold Dat.before; rw [if_pos (fetch0_0 t0_0)]; rfl
  have hw : ∀ d, (dats (F := F) m ρ 0 c).before (1 : Fin 3) t0_0 d = wAt m ρ c := fun d => by
    unfold Dat.before; rw [if_pos (fetch0_1 t0_0)]; rfl
  show iprop(Φ₀ m ρ c ∗ (dats m ρ 0 c).owesAt () t0_0.castSucc
      ∗ (∃ d, owns (c : Thread nD τ) (Memref.whole cc0_stg0_0) fullShare ((dats m ρ 0 c).before (0 : Fin 3) t0_0 d))
      ∗ (∃ d, owns (c : Thread nD τ) (Memref.whole cc0_stg1_0) fullShare ((dats m ρ 0 c).before (1 : Fin 3) t0_0 d))
      ∗ (∃ d, owns (c : Thread nD τ) (Memref.whole cc0_stg2_0) fullShare ((dats m ρ 0 c).before (2 : Fin 3) t0_0 d)))
    ⊢ runs c (bodyProg (F := F)) (fun _ => iprop(Φ₁ c ∗ (dats m ρ 0 c).owesAt () t0_0.succ
      ∗ owns (c : Thread nD τ) (Memref.whole cc0_stg0_0) fullShare (xAt m ρ c)
      ∗ owns (c : Thread nD τ) (Memref.whole cc0_stg1_0) fullShare (wAt m ρ c)
      ∗ owns (c : Thread nD τ) (Memref.whole cc0_stg2_0) fullShare (result (xAt m ρ) (wAt m ρ) c)))
  simp only [owns_held, hx, hw]
  unfold Φ₀ start G' Dat.owesAt Pipeline.owesWithin
  rw [show (dats (F := F) m ρ 0 c).owed t0_0.castSucc = owedAll c from rfl, show (dats (F := F) m ρ 0 c).owed t0_0.succ = 0 from rfl]
  iintro ⟨⟨⟨⟨%K, #HR, Hl⟩, Hcr, #Hlev⟩, Hs⟩, ⟨%W, -, HO⟩, ⟨%d0, Hx⟩, ⟨%d1, Hw⟩, ⟨%d2, Hout⟩⟩
  ihave Hg := (to_ghost (F := F) c) $$ [Hl Hcr]
  · isplitl [Hl] <;> iassumption
  iapply (run_body (xAt m ρ) (wAt m ρ) K c _) $$ [Hg HO Hs Hx Hw Hout]
  · isplitr; · iexact HR
    isplitr; · iexact Hlev
    isplitl [Hg]; · iexact Hg
    isplitl [HO]; · unfold debt; iexists W; iexact HO
    isplitl [Hs]; · iexact Hs
    isplitl [Hx]; · iexact Hx
    isplitl [Hw]; · iexact Hw
    iexists _; iexact Hout
  unfold debt Φ₁
  iintro ⟨⟨%W', HO⟩, Hs, Hz, Hws, Hx, Hw, Hout⟩
  isplitl [Hs Hz Hws]
  · isplitl [Hs]; · iexact Hs
    isplitl [Hz] <;> iassumption
  isplitl [HO]
  · iexists W'
    isplitr; · ipureintro; exact fun _ _ => Or.inl trivial
    iexact HO
  isplitl [Hx]; · iexact Hx
  isplitl [Hw]; · iexact Hw
  iexact Hout

/-! ## The launch -/

/-- Every window holds its array in full. -/
theorem share_eq (c : Dev nD) (w : Fin cfg0.W) : (dats m ρ 0 c).share w = fullShare := by unfold Dat.share; split <;> rfl

/-- The state a device starts from. -/
theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' (xAt m ρ) (wAt m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- Into the body's state, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

/-- and out of it. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratches Pipeline.ownSems0
  rw [by_transfer (fun i => (semVal ((c : Thread nD τ), osem i) 0 : sProp 𝕄)) (waited c) fun _ => rfl]
  iintro ⟨Hs, Hz, Hws⟩
  isplitl [Hz]; · iexact Hz
  isplitl [Hws]; · iexact Hws
  iexact Hs

/-- The staging cells lie below every cell of the ring. -/
theorem lev_stage : ∀ (c : Dev nD) (w : Fin 3) (s : Fin ((cfgs 0).win w).nbuf), lev ((c : Thread nD τ), .dma (((cfgs 0).win w).sem s)) = 0 := by
  intro c w
  fin_cases w <;> (intro s; fin_cases s; rfl)

/-- The pipeline's own waits lie below everything owed. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (lev_stage c w s) _ (by
      rcases t with ⟨_ | _, ht⟩
      · exact Or.inl rfl
      · exact Or.inr rfl)

/-! ## The run -/

/-- What an array ends holding. -/
def finalA (c : Dev nD) (w : Fin cfg0.W) : Buf (Elt F) ((cfg0.win w).arr.view.loc (c : Thread nD τ)) := (dats m ρ 0 c).arrAt w cfg0.N

/-- The final memory: every array at what it ends holding. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- On four devices, for any float values and from any memory with every counter at zero, the program runs to its end
    and leaves each window's array as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := stage_waits m ρ)
    (G := G (xAt m ρ) (wAt m ρ)) (G' := G' (xAt m ρ) (wAt m ρ)) (u₀ := u₀)
    (hu₀ := by
      unfold u₀
      iintro Hu
      ihave H := (ownU_pair _ _) $$ Hu
      icases H with ⟨HP, HX⟩
      imod (fund_ring (xAt m ρ) (wAt m ρ)) $$ HX with HG
      imodintro
      isplitl [HP] <;> iassumption)
    (hglob := glob (xAt m ρ) (wAt m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdeal.Gen

end
-- ==== Proof.Frames.lean ====
/-
  The three frames. The kernel and its idealization have the same text, so the one run over any float values is the
  run of both.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Init

@[expose] public section

noncomputable section

namespace Cert.Proof

open Idealize.ShloMosaic Idealize.SL.Sem

section
variable {F : FTy → Type} [FloatOps F] (m : (ℓ : Loc Cert.KernelIdeal.nD Cert.KernelIdeal.τ Cert.KernelIdeal.sig) → Buf (Elt F) ℓ) (ρ : Dev Cert.KernelIdeal.nD → PrngReg)

/-- The arguments end as they were. -/
theorem kept {r : PUnit × MemSt Cert.KernelIdeal.nD Cert.KernelIdeal.τ Cert.KernelIdeal.sig (Elt F)} (h : Cert.KernelIdeal.Gen.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h c (0 : Fin 3)).trans (Cert.KernelIdeal.Gen.finalA_x m ρ c), (h c (1 : Fin 3)).trans (Cert.KernelIdeal.Gen.finalA_w m ρ c)⟩

end

/-- The idealized kernel terminates, keeps its arguments and leaves every counter at zero. -/
theorem frame_kernelIdeal : Cert.quiescent_KernelIdeal := fun m ρ _ =>
  (θ_run Cert.KernelIdeal.defs _ _).mono (fun _ h => ⟨kept m ρ h.1, h.2⟩) (Cert.KernelIdeal.Gen.run_main (F := Ideal) m ρ)

/-- The two programs are one text. -/
theorem same_defs : Cert.Kernel.defs (F := Bits) = Cert.KernelIdeal.defs (F := Bits) := by sl_kernel_rfl

/-- So does the kernel. -/
theorem frame_kernel : Cert.quiescent_Kernel := fun m ρ _ => by
  rw [same_defs]
  exact (θ_run Cert.KernelIdeal.defs _ _).mono (fun _ h => ⟨kept m ρ h.1, h.2⟩) (Cert.KernelIdeal.Gen.run_main (F := Bits) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof

end
-- ==== Proof.Value.lean ====
/-
  What the ring computes over the extended reals: every tile of the result is the activation of the sum, over the
  devices, of their partial products' tiles. Packing a tile for a transfer and opening it again changes nothing there.
-/
module

public import proofs.«01_k».proof.Proof.Tiles
public import Idealize.ShloMosaic.PureOps.Ideal.Laws
public import Idealize.ShloMosaic.Lib.Pipeline.Value

@[expose] public section

noncomputable section

namespace Cert.KernelIdeal.Gen

open Idealize.ShloMosaic Idealize.ShloMosaic.TcCoe
open Idealize.ShloMosaic.VecWindow

/-! ## One tile -/

/-- The activation of one number, as the kernel writes it. -/
def act (a : EReal) : EReal :=
  Ideal.ofBits .f32 0x3F000000#32 * a
    * (Ideal.ofBits .f32 0x3F800000#32
      + Ideal.tanh (Ideal.ofBits .f32 0x3F4C422A#32 * (a + Ideal.ofBits .f32 0x3D372713#32 * a * a * a)))

/-- It is what the kernel applies to each element of a tile. -/
theorem pay24_apply (t : Tile Ideal) (z : S512x512.Idx) : k0_pay24 (F := Ideal) t half z = act (t z) := rfl

/-- Opening a packed tile gives it back. -/
theorem open_packed (t : Tile Ideal) : k0_pay37 (k0_pay5 t) = t := by
  unfold k0_pay37 k0_pay5
  dsimp only
  rw [shapeCast_shapeCast, shapeCast_self]
  rfl

/-- Adding what landed and packing the sum; -/
theorem pay15_eq (v : Tile Ideal) (r : Vec Ideal S1x1x512x512 .bf16) : k0_pay15 v r = k0_pay5 (addf v (k0_pay37 r)) := by
  unfold k0_pay15 k0_pay5 k0_pay37
  dsimp only
  rw [shapeCast_self, shapeCast_self]
/-- adding what landed; -/
theorem pay23_eq (v : Tile Ideal) (r : Vec Ideal S1x1x512x512 .bf16) : k0_pay23 v r = addf v (k0_pay37 r) := by
  unfold k0_pay23 k0_pay37
  dsimp only
  rw [shapeCast_self]
/-- activating and packing. -/
theorem pay25_eq (t : Tile Ideal) : k0_pay25 (F := Ideal) t half = k0_pay5 (k0_pay24 (F := Ideal) t half) := by
  unfold k0_pay25 k0_pay5
  dsimp only
  rw [shapeCast_self]

/-! ## The ring -/

variable (X : Dev nD → Vec Ideal S2048x512 .bf16) (Wt : Dev nD → Vec Ideal S512x2048 .bf16)

/-- A hop further on, the receiver's row is the one the sender's sender held. -/
theorem row_next {k : ℕ} (hk : k < 20) (c : Dev nD) : row (k + 4) c = row k (frm (k + 4) c) := by
  refine Fin.ext ?_
  have hc : c.val < 4 := c.isLt
  unfold row frm nxt prv
  by_cases h : k % 2 = 0
  · rw [if_pos (by omega), if_pos h, if_pos (by omega)]
    show (c.val + 7 - (k + 4) / 4) % 4 = ((c.val + 3) % 4 + 7 - k / 4) % 4
    omega
  · rw [if_neg (by omega), if_neg h, if_neg (by omega)]
    show (c.val + 1 + (k + 4) / 4) % 4 = ((c.val + 1) % 4 + 1 + k / 4) % 4
    omega
/-- The first hop lands on the sender's own row. -/
theorem row_first {k : ℕ} (hk : k < 4) (c : Dev nD) : row k c = frm k c := by
  refine Fin.ext ?_
  have hc : c.val < 4 := c.isLt
  unfold row frm nxt prv
  by_cases h : k % 2 = 0
  · rw [if_pos h, if_pos h]
    show (c.val + 7 - k / 4) % 4 = (c.val + 3) % 4
    omega
  · rw [if_neg h, if_neg h]
    show (c.val + 1 + k / 4) % 4 = (c.val + 1) % 4
    omega
/-- A hop further on the sender is the same, -/
theorem frm_next (k : ℕ) (c : Dev nD) : frm (k + 4) c = frm k c := by
  unfold frm; rw [show (k + 4) % 2 = k % 2 by omega]
/-- and so is the column. -/
theorem col_next (k : ℕ) : col (k + 4) = col k := Fin.ext (by unfold col; show 2 * ((k + 4) % 2) + (k + 4) / 2 % 2 = 2 * (k % 2) + k / 2 % 2; omega)

/-- What transfer `k` brings device `c`, opened. -/
def got (k : ℕ) (c : Dev nD) : Tile Ideal := k0_pay37 (landed X Wt k c)

/-- What lands, from what landed at the sender a hop before. -/
theorem landed_next (k : ℕ) (c : Dev nD) :
    landed X Wt (k + 4) c = onward (k / 4) (prodTile X Wt (frm k c) (row k (frm k c)) (col k)) (landed X Wt k (frm k c)) := by
  unfold landed
  rw [frm_next]
  exact sent_next X Wt k (frm k c)

/-- The first hop brings the sender's own tile; -/
theorem got_first {k : ℕ} (hk : k < 4) (c : Dev nD) : got X Wt k c = prodTile X Wt (frm k c) (row k c) (col k) := by
  unfold got landed
  rw [sent_first X Wt k hk, open_packed, row_first hk]
/-- each of the next two the sender's tile added to what the sender got. -/
theorem got_next {k : ℕ} (hk : k < 8) (c : Dev nD) :
    got X Wt (k + 4) c = addf (prodTile X Wt (frm (k + 4) c) (row (k + 4) c) (col (k + 4))) (got X Wt k (frm (k + 4) c)) := by
  unfold got
  rw [landed_next, row_next (by omega), frm_next, col_next]
  unfold onward
  rw [if_pos (by omega), pay15_eq, open_packed]

/-- The sum of the devices' tiles. -/
def total (i j : Fin 4) : Tile Ideal := fun z => ∑ d : Dev nD, prodTile X Wt d i j z

/-- A sum over the ring, started at any device and followed either way round. -/
theorem sum_ring (k : ℕ) (f : Fin 4 → EReal) (c : Fin 4) :
    f c + (f (frm k c) + (f (frm k (frm k c)) + f (frm k (frm k (frm k c))))) = ∑ d : Fin 4, f d := by
  rw [Fin.sum_univ_four]
  unfold frm
  by_cases h : k % 2 = 0
  · simp only [if_pos h]
    fin_cases c
    · show f 0 + (f 3 + (f 2 + f 1)) = _; abel
    · show f 1 + (f 0 + (f 3 + f 2)) = _; abel
    · show f 2 + (f 1 + (f 0 + f 3)) = _; abel
    · show f 3 + (f 2 + (f 1 + f 0)) = _; abel
  · simp only [if_neg h]
    fin_cases c
    · show f 0 + (f 1 + (f 2 + f 3)) = _; abel
    · show f 1 + (f 2 + (f 3 + f 0)) = _; abel
    · show f 2 + (f 3 + (f 0 + f 1)) = _; abel
    · show f 3 + (f 0 + (f 1 + f 2)) = _; abel

/-- The last reducing hop completes the sum. -/
theorem summed {k : ℕ} (h8 : 8 ≤ k) (h12 : k < 12) (c : Dev nD) :
    addf (prodTile X Wt c (row k c) (col k)) (got X Wt k c) = total X Wt (row k c) (col k) := by
  obtain ⟨j, rfl⟩ : ∃ j, k = j + 4 + 4 := ⟨k - 8, by omega⟩
  have hj : j < 4 := by omega
  rw [got_next X Wt (by omega : j + 4 < 8), got_next X Wt (by omega : j < 8), got_first X Wt hj,
    ← row_next (by omega : j < 20), ← row_next (by omega : j + 4 < 20)]
  simp only [← row_next (by omega : j < 20), ← row_next (by omega : j + 4 < 20), frm_next, col_next]
  funext z
  exact sum_ring j (fun d => prodTile X Wt d (row (j + 4 + 4) c) (col j) z) c

/-- A tile of the result. -/
def done (i j : Fin 4) : Tile Ideal := k0_pay24 (F := Ideal) (total X Wt i j) half

/-- The gathering hops carry finished tiles. -/
theorem landed_done {k : ℕ} (h12 : 12 ≤ k) (h24 : k < 24) : ∀ c : Dev nD, landed X Wt k c = k0_pay5 (done X Wt (row k c) (col k)) := by
  induction k using Nat.strong_induction_on with
  | _ k ih =>
    intro c
    obtain ⟨j, rfl⟩ : ∃ j, k = j + 4 := ⟨k - 4, by omega⟩
    rw [landed_next, row_next (by omega), frm_next, col_next]
    unfold onward
    rw [if_neg (by omega)]
    by_cases hj : j < 12
    · rw [if_pos (by omega), pay23_eq, pay25_eq]
      unfold done
      rw [← summed X Wt (by omega : 8 ≤ j) hj]
      rfl
    · rw [if_neg (by omega)]
      exact ih j (by omega) (by omega) (by omega) _

/-- What a step writes is a finished tile. -/
theorem fin_done {k : ℕ} (h8 : 8 ≤ k) (h24 : k < 24) (c : Dev nD) : fin X Wt k c = done X Wt (row k c) (col k) := by
  unfold fin
  by_cases h : k < 12
  · rw [if_pos h, pay23_eq]
    unfold done
    rw [← summed X Wt h8 h]
    rfl
  · rw [if_neg h, landed_done X Wt (by omega) h24, open_packed]

/-- Once written, a tile stays: whatever overwrites it writes the same. -/
theorem written {k : ℕ} (h8 : 8 ≤ k) (c : Dev nD) : ∀ n, k < n → n ≤ 24 → tilesAt X Wt n c (row k c) (col k) = done X Wt (row k c) (col k) := by
  intro n
  induction n with
  | zero => intro h; exact absurd h (by omega)
  | succ n ih =>
    intro h hn
    rw [tilesAt_write X Wt n (by omega)]
    by_cases e : row k c = row n c ∧ col k = col n
    · rw [setTile_same _ _ e, fin_done X Wt (by omega) (by omega), e.1, e.2]
    · rw [setTile_ne _ _ e]
      refine ih ?_ (by omega)
      rcases Nat.lt_succ_iff_lt_or_eq.mp h with h | h
      · exact h
      · exact absurd (by rw [h]; exact ⟨rfl, rfl⟩) e

/-- Every tile is written by some step. -/
theorem all_written : ∀ (c : Dev nD) (i j : Fin 4), ∃ k : Fin 24, 8 ≤ k.val ∧ row k.val c = i ∧ col k.val = j := by decide

/-- Every device ends with the same result: each tile the activation of the devices' sum. -/
theorem result_eq (c : Dev nD) : result X Wt c = asm (done X Wt) := by
  unfold result
  congr 1
  funext i j
  obtain ⟨k, h8, rfl, rfl⟩ := all_written c i j
  exact written X Wt h8 c 24 k.isLt le_rfl

end Cert.KernelIdeal.Gen

end
-- ==== Proof.Product.lean ====
/-
  The devices' partial products summed are one product. Each device multiplies a block of columns of `x` by the matching
  block of rows of `w`; summing the four runs over the whole contracted dimension, block by block.
-/
module

public import proofs.«01_k».proof.Proof.Value
public import proofs.«01_k».proof.Proof.Gen.ReferenceIdeal
public import Idealize.ShloMosaic.Lib.MatmulPlain
public import Idealize.ShloMosaic.Lib.StackMember
public import Idealize.ShloMosaic.Lib.Layout

@[expose] public section

noncomputable section

namespace Cert.KernelIdeal.Gen

open Idealize.ShloMosaic Idealize.ShloMosaic.TcCoe Idealize.ShloMosaic.ValueIdx
open Idealize.ShloMosaic.VecWindow

/-! ## A device's product, read at an index -/

/-- The kernel's product is a plain product of two matrices. -/
theorem dot_kernel : dot_S512x512_S512x2048_S512x2048_1_0_0_1_n_n = DotDims.plain 512 512 2048 := rfl

/-- An element of it is a sum over the contracted dimension. -/
theorem pay4_apply (a : Vec Ideal S512x512 .bf16) (b : Vec Ideal S512x2048 .bf16) (r : Fin 512) (q : Fin 2048) :
    k0_pay4 a b (ix2 r q) = ∑ k : Fin 512, a (ix2 r k) * b (ix2 k q) := by
  unfold k0_pay4
  rw [dot_kernel]
  refine (Ideal.matmul_plain_apply none a b _ r q).trans ?_
  show Ideal.ofBits .f32 0x00000000#32 + _ = _
  rw [Ideal.ofBits_zero_f32, zero_add]

/-- Row `r` of row-tile `i`, and column `q` of column-tile `j`, in the whole array. -/
def at_ (i : Fin 4) (r : Fin 512) : Fin 2048 := ⟨512 * i.val + r.val, by omega⟩

variable (X : Dev nD → Vec Ideal S2048x512 .bf16) (Wt : Dev nD → Vec Ideal S512x2048 .bf16)

/-- An element of a device's tile, from its blocks of `x` and `w`. -/
theorem prodTile_apply (d : Dev nD) (i j : Fin 4) (r q : Fin 512) :
    prodTile X Wt d i j (ix2 r q) = ∑ k : Fin 512, X d (ix2 (at_ i r) k) * Wt d (ix2 k (at_ j q)) := by
  have e : prodTile X Wt d i j (ix2 r q) = prodRow X Wt d i (ix2 r (at_ j q)) := by
    show prodRow X Wt d i _ = _
    refine congrArg _ (funext fun a => Fin.ext ?_)
    match a with
    | 0 => show 0 + 1 * r.val = r.val; omega
    | 1 => show 512 * j.val + 1 * q.val = 512 * j.val + q.val; omega
  rw [e]
  unfold prodRow
  rw [pay4_apply]
  refine Finset.sum_congr rfl fun k _ => ?_
  have ex : window (k0_pay2 (X d)) ![512 * i.val, 0] S512x512.size (rowx_inb i) (ix2 r k) = X d (ix2 (at_ i r) k) := by
    unfold k0_pay2
    dsimp only
    rw [shapeCast_self, shapeCast_self]
    refine congrArg (X d) (funext fun a => Fin.ext ?_)
    match a with
    | 0 => show 512 * i.val + 1 * r.val = 512 * i.val + r.val; omega
    | 1 => show 0 + 1 * k.val = k.val; omega
  have ew : k0_pay3 (Wt d) = Wt d := by
    unfold k0_pay3
    dsimp only
    rw [shapeCast_self, shapeCast_self]
  rw [ex, ew]

/-! ## The whole product -/

/-- The reference's product is a plain one too. -/
theorem dot_reference : Cert.ReferenceIdeal.dot_S2048x2048_S2048x2048_S2048x2048_1_0_0_1_n_n = DotDims.plain 2048 2048 2048 := rfl

/-- A sum over the contracted dimension, block by block. -/
theorem sum_blocks (f : Fin 2048 → EReal) : ∑ d : Fin 4, ∑ k : Fin 512, f (at_ d k) = ∑ K : Fin 2048, f K := by
  rw [← Fintype.sum_prod_type' (fun (d : Fin 4) (k : Fin 512) => f (at_ d k))]
  refine Fintype.sum_equiv (finProdFinEquiv (m := 4) (n := 512)) _ _ fun p => congrArg f (Fin.ext ?_)
  show 512 * p.1.val + p.2.val = p.2.val + 512 * p.1.val
  omega

/-- `x` is four blocks of columns, -/
theorem cut_x : Layout.Tiles ⟨2, ![2048, 512]⟩ ⟨2, ![2048, 2048]⟩ 1 4 := by decide
/-- and `w` four blocks of rows. -/
theorem cut_w : Layout.Tiles ⟨2, ![512, 2048]⟩ ⟨2, ![2048, 2048]⟩ 0 4 := by decide

variable (x w : Vec Ideal Cert.ReferenceIdeal.S2048x2048 .bf16)
  (hX : ∀ c, X c = Layout.block ⟨2, ![2048, 512]⟩ ⟨2, ![2048, 2048]⟩ 1 4 c x cut_x)
  (hW : ∀ c, Wt c = Layout.block ⟨2, ![512, 2048]⟩ ⟨2, ![2048, 2048]⟩ 0 4 c w cut_w)

/-- The whole product `x · w`. -/
def whole : Vec Ideal S2048x2048 .f32 :=
  Host.dotGeneral (F := Ideal) (φ₁ := .bf16) (φ₂ := .bf16) Cert.ReferenceIdeal.dot_S2048x2048_S2048x2048_S2048x2048_1_0_0_1_n_n none x w

include hX hW in
/-- The devices' tiles sum to the whole product's tile. -/
theorem total_apply (i j : Fin 4) (r q : Fin 512) : total X Wt i j (ix2 r q) = whole x w (ix2 (at_ i r) (at_ j q)) := by
  unfold whole
  rw [dot_reference]
  refine Eq.trans ?_ (StackMember.dotGeneral_plain_apply (φ₁ := .bf16) (φ₂ := .bf16) none x w (at_ i r) (at_ j q)).symm
  rw [← sum_blocks]
  refine Finset.sum_congr rfl fun d _ => ?_
  rw [prodTile_apply]
  refine Finset.sum_congr rfl fun k _ => ?_
  rw [hX, hW]
  refine congrArg₂ (· * ·) (congrArg x (funext fun a => Fin.ext ?_)) (congrArg w (funext fun a => Fin.ext ?_))
  · match a with
    | 0 => rfl
    | 1 => show d.val * 512 + k.val = 512 * d.val + k.val; omega
  · match a with
    | 0 => show d.val * 512 + k.val = 512 * d.val + k.val; omega
    | 1 => rfl

include hX hW in
/-- Every device's result is the activation of the whole product. -/
theorem result_apply (c : Dev nD) (y : S2048x2048.Idx) : result X Wt c y = act (whole x w y) := by
  rw [result_eq]
  show done X Wt _ _ (inTile y) = _
  unfold done
  rw [pay24_apply]
  unfold inTile
  rw [total_apply X Wt x w hX hW]
  refine congrArg (fun t => act (whole x w t)) ((congrArg₂ ix2 (Fin.ext ?_) (Fin.ext ?_)).trans (eq_ix2 y).symm)
  · show 512 * ((y 0).val / 512) + (y 0).val % 512 = (y 0).val; omega
  · show 512 * ((y 1).val / 512) + (y 1).val % 512 = (y 1).val; omega

end Cert.KernelIdeal.Gen

end
-- ==== Proof.Algebraic.lean ====
/-
  The value claim: over the extended reals the kernel's result, on every device, is the reference's.
-/
module

public import proofs.«01_k».proof.Proof.Product
public import proofs.«01_k».proof.Proof.Frames

@[expose] public section

noncomputable section

namespace Cert.KernelIdeal.Gen

open Idealize.ShloMosaic Idealize.ShloMosaic.TcCoe Idealize.SL.Sem

section
variable {F : FTy → Type} [FloatOps F] (m : (ℓ : Loc nD τ sig) → Buf (Elt F) ℓ) (ρ : Dev nD → PrngReg)

/-! ## Whole blocks -/

/-- The one block of an array that is a single block is the array. -/
theorem emb0_0 (y : S2048x512.Idx) : (win0_0.blk (0 : Fin 1)).view.emb y = y := by
  funext a
  refine Fin.ext ?_
  match a with
  | 0 => show 0 + 1 * (y 0).val = (y 0).val; omega
  | 1 => show 0 + 1 * (y 1).val = (y 1).val; omega
/-- The same of the second argument, -/
theorem emb0_1 (y : S512x2048.Idx) : (win0_1.blk (0 : Fin 1)).view.emb y = y := by
  funext a
  refine Fin.ext ?_
  match a with
  | 0 => show 0 + 1 * (y 0).val = (y 0).val; omega
  | 1 => show 0 + 1 * (y 1).val = (y 1).val; omega
/-- and of the result. -/
theorem emb0_2 (y : S2048x2048.Idx) : (win0_2.blk (0 : Fin 1)).view.emb y = y := by
  funext a
  refine Fin.ext ?_
  match a with
  | 0 => show 0 + 1 * (y 0).val = (y 0).val; omega
  | 1 => show 0 + 1 * (y 1).val = (y 1).val; omega

/-- So the fetched blocks are the argument arrays: `x`, -/
theorem xAt_eq (c : Dev nD) : xAt m ρ c = m ((c : Thread nD τ).loc main_arg0) :=
  funext fun y => congrArg (m ((c : Thread nD τ).loc main_arg0)) (emb0_0 y)
/-- and `w`. -/
theorem wAt_eq (c : Dev nD) : wAt m ρ c = m ((c : Thread nD τ).loc main_arg1) :=
  funext fun y => congrArg (m ((c : Thread nD τ).loc main_arg1)) (emb0_1 y)

/-- The result array ends holding what the body leaves in its buffer. -/
theorem finalA_out (c : Dev nD) : finalA m ρ c (2 : Fin 3) = result (xAt m ρ) (wAt m ρ) c := by
  refine (dats m ρ 0 c).arrAt_eq_of_cover (2 : Fin 3) (result (xAt m ρ) (wAt m ρ) c) (fun t _ => ?_) fun i => ?_
  · obtain rfl := fin_N0 t
    funext y
    exact congrArg (result (xAt m ρ) (wAt m ρ) c) (emb0_2 y).symm
  · refine ⟨t0_0, flush0_2 t0_0, ?_⟩
    have h := (win0_2.blk (0 : Fin 1)).view.emb_mem_set i
    rw [emb0_2] at h
    exact h

end

/-! ## The reference, read at an index -/

/-- The reference multiplies the cube first. -/
theorem act_cube (a : EReal) :
    act a = Ideal.ofBits .f32 0x3F000000#32 * a
      * (Ideal.ofBits .f32 0x3F800000#32
        + Ideal.tanh (Ideal.ofBits .f32 0x3F4C422A#32 * (a + Ideal.ofBits .f32 0x3D372713#32 * (a * a * a)))) := by
  have e : Ideal.ofBits .f32 0x3D372713#32 * a * a * a = Ideal.ofBits .f32 0x3D372713#32 * (a * a * a) := by
    simp only [mul_assoc]
  unfold act
  rw [e]

/-- What the reference computes from the whole arrays. -/
def refOut (x w : Vec Ideal Cert.ReferenceIdeal.S2048x2048 .bf16) : Vec Ideal Cert.ReferenceIdeal.S2048x2048 .f32 :=
  fun y => act (whole x w y)

end Cert.KernelIdeal.Gen

namespace Cert.Proof

open Idealize.ShloMosaic Idealize.SL.Sem Cert.KernelIdeal.Gen

/-- From memories that hold the devices' blocks of the reference's arrays, every device ends with the reference's
    result, and all arguments end as they were. -/
theorem algebraic : Cert.algebraic_KernelIdeal_ReferenceIdeal := by
  intro m g m' g' _ hin
  let x : Vec Ideal Cert.ReferenceIdeal.S2048x2048 .bf16 :=
    m' (((0 : Dev Cert.ReferenceIdeal.nD).tc : Thread Cert.ReferenceIdeal.nD Cert.ReferenceIdeal.τ).loc Cert.ReferenceIdeal.main_arg0)
  let w : Vec Ideal Cert.ReferenceIdeal.S2048x2048 .bf16 :=
    m' (((0 : Dev Cert.ReferenceIdeal.nD).tc : Thread Cert.ReferenceIdeal.nD Cert.ReferenceIdeal.τ).loc Cert.ReferenceIdeal.main_arg1)
  have hX : ∀ c, xAt m g c = Layout.block ⟨2, ![2048, 512]⟩ ⟨2, ![2048, 2048]⟩ 1 4 c x cut_x := fun c => (xAt_eq m g c).trans (hin c).1
  have hW : ∀ c, wAt m g c = Layout.block ⟨2, ![512, 2048]⟩ ⟨2, ![2048, 2048]⟩ 0 4 c w cut_w := fun c => (wAt_eq m g c).trans (hin c).2
  refine ⟨refOut x w, ?_, ?_⟩
  · refine (θ_run Cert.KernelIdeal.defs _ _).mono (fun r h c => ⟨?_, kept m g h.1 c⟩) (Cert.KernelIdeal.Gen.run_main (F := Ideal) m g)
    exact (h.1 c (2 : Fin 3)).trans ((finalA_out m g c).trans (funext fun y => result_apply _ _ x w hX hW c y))
  · refine (θ_run Cert.ReferenceIdeal.defs _ _).mono (fun r h => ⟨(h 0).1.trans (funext fun y => ?_), (h 0).2⟩) (Cert.ReferenceIdeal.Value.run (F := Ideal) m' g')
    exact (act_cube (whole x w y)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
